-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_edges_in_range [hPre_edges_in_range : Cert.Pre_edges_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_edges_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).1 = (fun _ => 1#1)
    ∧ (Cert.Pre_edges_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_in_range [hPre_edges_in_range : Cert.Pre_edges_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).1 = (fun _ => 1#1)
    ∧ (Cert.Pre_edges_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_edges_in_range [hKernelIdeal : Cert.KernelIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_edges_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_edges_in_range [hReferenceIdeal : Cert.ReferenceIdeal.Facts] [hPre_edges_in_range : Cert.Pre_edges_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_edges_in_range [hKernelIdeal : Cert.KernelIdeal.Facts] [hReferenceIdeal : Cert.ReferenceIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_edges_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v512) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_edges_in_range : Cert.Pre_edges_in_range.Facts),
    quiescent_Kernel (hKernel := hKernel)
    ∧ quiescent_KernelIdeal (hKernelIdeal := hKernelIdeal)
    ∧ quiescent_KernelIdeal_pre_edges_in_range (hKernelIdeal := hKernelIdeal) (hPre_edges_in_range := hPre_edges_in_range)
    ∧ quiescent_ReferenceIdeal (hReferenceIdeal := hReferenceIdeal)
    ∧ quiescent_ReferenceIdeal_pre_edges_in_range (hReferenceIdeal := hReferenceIdeal) (hPre_edges_in_range := hPre_edges_in_range)
    ∧ preserves_Kernel_KernelIdeal
    ∧ algebraic_KernelIdeal_ReferenceIdeal_pre_edges_in_range (hKernelIdeal := hKernelIdeal) (hReferenceIdeal := hReferenceIdeal) (hPre_edges_in_range := hPre_edges_in_range)
-- ==== Pre_edges_in_range.lean ====
abbrev S100x100 : Shape := ⟨2, ![100, 100]⟩
abbrev S2x4000 : Shape := ⟨2, ![2, 4000]⟩
abbrev S4000 : Shape := ⟨1, ![4000]⟩
abbrev S100x64 : Shape := ⟨2, ![100, 64]⟩
abbrev S64 : Shape := ⟨1, ![64]⟩
abbrev S64x20 : Shape := ⟨2, ![64, 20]⟩
abbrev S20 : Shape := ⟨1, ![20]⟩
abbrev S20x20 : Shape := ⟨2, ![20, 20]⟩
abbrev S20x1 : Shape := ⟨2, ![20, 1]⟩
abbrev S1 : Shape := ⟨1, ![1]⟩
abbrev S20x50 : Shape := ⟨2, ![20, 50]⟩
abbrev S50 : Shape := ⟨1, ![50]⟩
abbrev S_ : Shape := ⟨0, ![]⟩

class Facts : Prop where
  bcast_S_S2x4000 : S_.BroadcastsInDim S2x4000 (![] : Fin 0 → Fin S2x4000.rank)
  bcast_S_S4000 : S_.BroadcastsInDim S4000 (![] : Fin 0 → Fin S4000.rank)

variable [Facts]

def fn {F : FTy → Type} [FloatOps F] (main_arg0 : FVec F S100x100 .f32) (main_arg1 : IVec S2x4000 32) (main_arg2 : FVec F S4000 .f32) (main_arg3 : FVec F S100x100 .f32) (main_arg4 : FVec F S100x64 .f32) (main_arg5 : FVec F S64 .f32) (main_arg6 : FVec F S100x64 .f32) (main_arg7 : FVec F S64 .f32) (main_arg8 : FVec F S64x20 .f32) (main_arg9 : FVec F S20 .f32) (main_arg10 : FVec F S64x20 .f32) (main_arg11 : FVec F S20 .f32) (main_arg12 : FVec F S20x20 .f32) (main_arg13 : FVec F S20 .f32) (main_arg14 : FVec F S20x1 .f32) (main_arg15 : FVec F S1 .f32) (main_arg16 : FVec F S20x1 .f32) (main_arg17 : FVec F S20x50 .f32) (main_arg18 : FVec F S20x50 .f32) (main_arg19 : FVec F S20x50 .f32) (main_arg20 : FVec F S50 .f32) : IVec S2x4000 1 × IVec S4000 1 :=
  let main_c : IVec S_ 32 := constantI S_ 32 0#32
  let main_v0 : IVec S2x4000 32 := broadcastInDim S2x4000 ![] bcast_S_S2x4000 main_c
  let main_v1 : IVec S2x4000 1 := cmpi .sge main_arg1 main_v0
  let main_c_0 : IVec S_ 32 := constantI S_ 32 100#32
  let main_v2 : IVec S2x4000 32 := broadcastInDim S2x4000 ![] bcast_S_S2x4000 main_c_0
  let main_v3 : IVec S2x4000 1 := cmpi .slt main_arg1 main_v2
  let main_v4 : IVec S2x4000 1 := andi main_v1 main_v3
  let main_cst : FVec F S_ .f32 := constant S_ .f32 0x00000000#32
  let main_v5 : FVec F S4000 .f32 := broadcastInDim S4000 ![] bcast_S_S4000 main_cst
  let main_v6 : IVec S4000 1 := cmpf .oge main_arg2 main_v5
  let main_cst_1 : FVec F S_ .f32 := constant S_ .f32 0x7F800000#32
  let main_v7 : FVec F S4000 .f32 := broadcastInDim S4000 ![] bcast_S_S4000 main_cst_1
  let main_v8 : IVec S4000 1 := cmpf .olt main_arg2 main_v7
  let main_v9 : IVec S4000 1 := andi main_v6 main_v8
  (main_v4, main_v9)
-- ==== Kernel.lean ====
abbrev S100x100 : Shape := ⟨2, ![100, 100]⟩
abbrev S2x4000 : Shape := ⟨2, ![2, 4000]⟩
abbrev S4000 : Shape := ⟨1, ![4000]⟩
abbrev S100x64 : Shape := ⟨2, ![100, 64]⟩
abbrev S64 : Shape := ⟨1, ![64]⟩
abbrev S64x20 : Shape := ⟨2, ![64, 20]⟩
abbrev S20 : Shape := ⟨1, ![20]⟩
abbrev S20x20 : Shape := ⟨2, ![20, 20]⟩
abbrev S20x1 : Shape := ⟨2, ![20, 1]⟩
abbrev S1 : Shape := ⟨1, ![1]⟩
abbrev S20x50 : Shape := ⟨2, ![20, 50]⟩
abbrev S50 : Shape := ⟨1, ![50]⟩
abbrev S1x4000 : Shape := ⟨2, ![1, 4000]⟩
abbrev S1x64 : Shape := ⟨2, ![1, 64]⟩
abbrev S1x20 : Shape := ⟨2, ![1, 20]⟩
abbrev S1x1 : Shape := ⟨2, ![1, 1]⟩
abbrev S1x50 : Shape := ⟨2, ![1, 50]⟩
abbrev S50x20 : Shape := ⟨2, ![50, 20]⟩
abbrev S100x4000 : Shape := ⟨2, ![100, 4000]⟩
abbrev S100 : Shape := ⟨1, ![100]⟩
abbrev S100x1 : Shape := ⟨2, ![100, 1]⟩
abbrev S100x20 : Shape := ⟨2, ![100, 20]⟩
abbrev S1x100 : Shape := ⟨2, ![1, 100]⟩
abbrev S50x100 : Shape := ⟨2, ![50, 100]⟩
abbrev S100x50 : Shape := ⟨2, ![100, 50]⟩
abbrev S50x1 : Shape := ⟨2, ![50, 1]⟩
abbrev S50x50 : Shape := ⟨2, ![50, 50]⟩

abbrev nBuf : Space → Nat
  | .hbm => 30
  | .vmem => 21
  | .smem => 0
  | _ => 0

abbrev bufTy : (tb : Table) → Fin (tcTables nBuf tb) → BufTy
  | .hbm, ⟨0, _⟩ => ⟨S100x100, .f32⟩
  | .hbm, ⟨1, _⟩ => ⟨S2x4000, .i32⟩
  | .hbm, ⟨2, _⟩ => ⟨S4000, .f32⟩
  | .hbm, ⟨3, _⟩ => ⟨S100x100, .f32⟩
  | .hbm, ⟨4, _⟩ => ⟨S100x64, .f32⟩
  | .hbm, ⟨5, _⟩ => ⟨S64, .f32⟩
  | .hbm, ⟨6, _⟩ => ⟨S100x64, .f32⟩
  | .hbm, ⟨7, _⟩ => ⟨S64, .f32⟩
  | .hbm, ⟨8, _⟩ => ⟨S64x20, .f32⟩
  | .hbm, ⟨9, _⟩ => ⟨S20, .f32⟩
  | .hbm, ⟨10, _⟩ => ⟨S64x20, .f32⟩
  | .hbm, ⟨11, _⟩ => ⟨S20, .f32⟩
  | .hbm, ⟨12, _⟩ => ⟨S20x20, .f32⟩
  | .hbm, ⟨13, _⟩ => ⟨S20, .f32⟩
  | .hbm, ⟨14, _⟩ => ⟨S20x1, .f32⟩
  | .hbm, ⟨15, _⟩ => ⟨S1, .f32⟩
  | .hbm, ⟨16, _⟩ => ⟨S20x1, .f32⟩
  | .hbm, ⟨17, _⟩ => ⟨S20x50, .f32⟩
  | .hbm, ⟨18, _⟩ => ⟨S20x50, .f32⟩
  | .hbm, ⟨19, _⟩ => ⟨S20x50, .f32⟩
  | .hbm, ⟨20, _⟩ => ⟨S50, .f32⟩
  | .hbm, ⟨21, _⟩ => ⟨S1x4000, .f32⟩
  | .hbm, ⟨22, _⟩ => ⟨S1x64, .f32⟩
  | .hbm, ⟨23, _⟩ => ⟨S1x64, .f32⟩
  | .hbm, ⟨24, _⟩ => ⟨S1x20, .f32⟩
  | .hbm, ⟨25, _⟩ => ⟨S1x20, .f32⟩
  | .hbm, ⟨26, _⟩ => ⟨S1x20, .f32⟩
  | .hbm, ⟨27, _⟩ => ⟨S1x1, .f32⟩
  | .hbm, ⟨28, _⟩ => ⟨S1x50, .f32⟩
  | .hbm, ⟨29, _⟩ => ⟨S50x20, .f32⟩
  | .local _ .vmem, ⟨0, _⟩ => ⟨S2x4000, .i32⟩
  | .local _ .vmem, ⟨1, _⟩ => ⟨S1x4000, .f32⟩
  | .local _ .vmem, ⟨2, _⟩ => ⟨S100x100, .f32⟩
  | .local _ .vmem, ⟨3, _⟩ => ⟨S100x64, .f32⟩
  | .local _ .vmem, ⟨4, _⟩ => ⟨S1x64, .f32⟩
  | .local _ .vmem, ⟨5, _⟩ => ⟨S100x64, .f32⟩
  | .local _ .vmem, ⟨6, _⟩ => ⟨S1x64, .f32⟩
  | .local _ .vmem, ⟨7, _⟩ => ⟨S64x20, .f32⟩
  | .local _ .vmem, ⟨8, _⟩ => ⟨S1x20, .f32⟩
  | .local _ .vmem, ⟨9, _⟩ => ⟨S64x20, .f32⟩
  | .local _ .vmem, ⟨10, _⟩ => ⟨S1x20, .f32⟩
  | .local _ .vmem, ⟨11, _⟩ => ⟨S20x20, .f32⟩
  | .local _ .vmem, ⟨12, _⟩ => ⟨S1x20, .f32⟩
  | .local _ .vmem, ⟨13, _⟩ => ⟨S20x1, .f32⟩
  | .local _ .vmem, ⟨14, _⟩ => ⟨S1x1, .f32⟩
  | .local _ .vmem, ⟨15, _⟩ => ⟨S20x1, .f32⟩
  | .local _ .vmem, ⟨16, _⟩ => ⟨S20x50, .f32⟩
  | .local _ .vmem, ⟨17, _⟩ => ⟨S20x50, .f32⟩
  | .local _ .vmem, ⟨18, _⟩ => ⟨S20x50, .f32⟩
  | .local _ .vmem, ⟨19, _⟩ => ⟨S1x50, .f32⟩
  | .local _ .vmem, ⟨20, _⟩ => ⟨S50x20, .f32⟩
  | _, _ => ⟨S100x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x4000 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S100x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S100x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S100x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x20 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x20 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x20 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S20x20 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x20 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S20x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S20x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S20x50 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S20x50 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S20x50 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x50 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S50x20 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== ReferenceIdeal.lean ====
abbrev S100x100 : Shape := ⟨2, ![100, 100]⟩
abbrev S2x4000 : Shape := ⟨2, ![2, 4000]⟩
abbrev S4000 : Shape := ⟨1, ![4000]⟩
abbrev S100x64 : Shape := ⟨2, ![100, 64]⟩
abbrev S64 : Shape := ⟨1, ![64]⟩
abbrev S64x20 : Shape := ⟨2, ![64, 20]⟩
abbrev S20 : Shape := ⟨1, ![20]⟩
abbrev S20x20 : Shape := ⟨2, ![20, 20]⟩
abbrev S20x1 : Shape := ⟨2, ![20, 1]⟩
abbrev S1 : Shape := ⟨1, ![1]⟩
abbrev S20x50 : Shape := ⟨2, ![20, 50]⟩
abbrev S50 : Shape := ⟨1, ![50]⟩
abbrev S1x4000 : Shape := ⟨2, ![1, 4000]⟩
abbrev S_ : Shape := ⟨0, ![]⟩
abbrev S100 : Shape := ⟨1, ![100]⟩
abbrev S4100 : Shape := ⟨1, ![4100]⟩
abbrev S4100x1 : Shape := ⟨2, ![4100, 1]⟩
abbrev S4100x64 : Shape := ⟨2, ![4100, 64]⟩
abbrev S1x64 : Shape := ⟨2, ![1, 64]⟩
abbrev S50x64 : Shape := ⟨2, ![50, 64]⟩
abbrev S100x20 : Shape := ⟨2, ![100, 20]⟩
abbrev S4100x20 : Shape := ⟨2, ![4100, 20]⟩
abbrev S1x20 : Shape := ⟨2, ![1, 20]⟩
abbrev S50x20 : Shape := ⟨2, ![50, 20]⟩
abbrev S4000x1 : Shape := ⟨2, ![4000, 1]⟩
abbrev S4000x20 : Shape := ⟨2, ![4000, 20]⟩
abbrev S100x1 : Shape := ⟨2, ![100, 1]⟩
abbrev S1x1 : Shape := ⟨2, ![1, 1]⟩
abbrev S50x1 : Shape := ⟨2, ![50, 1]⟩
abbrev S100x50 : Shape := ⟨2, ![100, 50]⟩
abbrev S1x50 : Shape := ⟨2, ![1, 50]⟩
abbrev S50x100 : Shape := ⟨2, ![50, 100]⟩
abbrev S50x50 : Shape := ⟨2, ![50, 50]⟩

abbrev nBuf : Space → Nat
  | .hbm => 736
  | .vmem => 0
  | .smem => 0
  | _ => 0

abbrev hbmTy0_0 (i : Nat) : BufTy := match i % 128 with
  | 0 => ⟨S100x100, .f32⟩
  | 1 => ⟨S2x4000, .i32⟩
  | 2 => ⟨S4000, .f32⟩
  | 3 => ⟨S100x100, .f32⟩
  | 4 => ⟨S100x64, .f32⟩
  | 5 => ⟨S64, .f32⟩
  | 6 => ⟨S100x64, .f32⟩
  | 7 => ⟨S64, .f32⟩
  | 8 => ⟨S64x20, .f32⟩
  | 9 => ⟨S20, .f32⟩
  | 10 => ⟨S64x20, .f32⟩
  | 11 => ⟨S20, .f32⟩
  | 12 => ⟨S20x20, .f32⟩
  | 13 => ⟨S20, .f32⟩
  | 14 => ⟨S20x1, .f32⟩
  | 15 => ⟨S1, .f32⟩
  | 16 => ⟨S20x1, .f32⟩
  | 17 => ⟨S20x50, .f32⟩
  | 18 => ⟨S20x50, .f32⟩
  | 19 => ⟨S20x50, .f32⟩
  | 20 => ⟨S50, .f32⟩
  | 21 => ⟨S1x4000, .i32⟩
  | 22 => ⟨S4000, .i32⟩
  | 23 => ⟨S1x4000, .i32⟩
  | 24 => ⟨S4000, .i32⟩
  | 25 => ⟨S_, .i32⟩
  | 26 => ⟨S4000, .i32⟩
  | 27 => ⟨S4000, .i1⟩
  | 28 => ⟨S_, .i32⟩
  | 29 => ⟨S4000, .i32⟩
  | 30 => ⟨S4000, .i1⟩
  | 31 => ⟨S4000, .i1⟩
  | 32 => ⟨S4000, .f32⟩
  | 33 => ⟨S_, .i32⟩
  | 34 => ⟨S4000, .i32⟩
  | 35 => ⟨S4000, .i1⟩
  | 36 => ⟨S_, .i32⟩
  | 37 => ⟨S4000, .i32⟩
  | 38 => ⟨S4000, .i1⟩
  | 39 => ⟨S4000, .i1⟩
  | 40 => ⟨S4000, .f32⟩
  | 41 => ⟨S4000, .f32⟩
  | 42 => ⟨S4000, .f32⟩
  | 43 => ⟨S100x64, .f32⟩
  | 44 => ⟨S100, .i32⟩
  | 45 => ⟨S4100, .i32⟩
  | 46 => ⟨S4100, .i32⟩
  | 47 => ⟨S_, .f32⟩
  | 48 => ⟨S100, .f32⟩
  | 49 => ⟨S4100, .f32⟩
  | 50 => ⟨S_, .f32⟩
  | 51 => ⟨S100, .f32⟩
  | 52 => ⟨S_, .i32⟩
  | 53 => ⟨S4100, .i32⟩
  | 54 => ⟨S4100, .i1⟩
  | 55 => ⟨S_, .i32⟩
  | 56 => ⟨S4100, .i32⟩
  | 57 => ⟨S4100, .i32⟩
  | 58 => ⟨S4100, .i32⟩
  | 59 => ⟨S4100x1, .i32⟩
  | 60 => ⟨S100, .f32⟩
  | 61 => ⟨S_, .f32⟩
  | 62 => ⟨S100, .f32⟩
  | 63 => ⟨S100, .i1⟩
  | 64 => ⟨S_, .f32⟩
  | 65 => ⟨S100, .f32⟩
  | 66 => ⟨S100, .i1⟩
  | 67 => ⟨S_, .f32⟩
  | 68 => ⟨S_, .f32⟩
  | 69 => ⟨S100, .f32⟩
  | 70 => ⟨S100, .f32⟩
  | 71 => ⟨S100, .f32⟩
  | 72 => ⟨S_, .f32⟩
  | 73 => ⟨S_, .f32⟩
  | 74 => ⟨S100, .f32⟩
  | 75 => ⟨S100, .f32⟩
  | 76 => ⟨S_, .i32⟩
  | 77 => ⟨S4100, .i32⟩
  | 78 => ⟨S4100, .i1⟩
  | 79 => ⟨S_, .i32⟩
  | 80 => ⟨S4100, .i32⟩
  | 81 => ⟨S4100, .i32⟩
  | 82 => ⟨S4100, .i32⟩
  | 83 => ⟨S4100x1, .i32⟩
  | 84 => ⟨S4100, .f32⟩
  | 85 => ⟨S4100, .f32⟩
  | 86 => ⟨S_, .i32⟩
  | 87 => ⟨S4100, .i32⟩
  | 88 => ⟨S4100, .i1⟩
  | 89 => ⟨S_, .i32⟩
  | 90 => ⟨S4100, .i32⟩
  | 91 => ⟨S4100, .i32⟩
  | 92 => ⟨S4100, .i32⟩
  | 93 => ⟨S4100x1, .i32⟩
  | 94 => ⟨S4100, .f32⟩
  | 95 => ⟨S4100, .f32⟩
  | 96 => ⟨S_, .f32⟩
  | 97 => ⟨S100x64, .f32⟩
  | 98 => ⟨S_, .i32⟩
  | 99 => ⟨S4100, .i32⟩
  | 100 => ⟨S4100, .i1⟩
  | 101 => ⟨S_, .i32⟩
  | 102 => ⟨S4100, .i32⟩
  | 103 => ⟨S4100, .i32⟩
  | 104 => ⟨S4100, .i32⟩
  | 105 => ⟨S4100x1, .i32⟩
  | 106 => ⟨S4100x64, .f32⟩
  | 107 => ⟨S4100x1, .f32⟩
  | 108 => ⟨S4100x64, .f32⟩
  | 109 => ⟨S4100x64, .f32⟩
  | 110 => ⟨S_, .i32⟩
  | 111 => ⟨S4100, .i32⟩
  | 112 => ⟨S4100, .i1⟩
  | 113 => ⟨S_, .i32⟩
  | 114 => ⟨S4100, .i32⟩
  | 115 => ⟨S4100, .i32⟩
  | 116 => ⟨S4100, .i32⟩
  | 117 => ⟨S4100x1, .i32⟩
  | 118 => ⟨S100x64, .f32⟩
  | 119 => ⟨S1x64, .f32⟩
  | 120 => ⟨S100x64, .f32⟩
  | 121 => ⟨S100x64, .f32⟩
  | 122 => ⟨S_, .f32⟩
  | 123 => ⟨S_, .f32⟩
  | 124 => ⟨S100x64, .f32⟩
  | 125 => ⟨S100x64, .i1⟩
  | 126 => ⟨S_, .f32⟩
  | 127 => ⟨S100x64, .f32⟩
  | _ => ⟨S100x100, .f32⟩

abbrev hbmTy0_1 (i : Nat) : BufTy := match i % 128 with
  | 0 => ⟨S100x64, .f32⟩
  | 1 => ⟨S100x64, .f32⟩
  | 2 => ⟨S100x64, .f32⟩
  | 3 => ⟨S100, .i32⟩
  | 4 => ⟨S4100, .i32⟩
  | 5 => ⟨S4100, .i32⟩
  | 6 => ⟨S_, .f32⟩
  | 7 => ⟨S100, .f32⟩
  | 8 => ⟨S4100, .f32⟩
  | 9 => ⟨S_, .f32⟩
  | 10 => ⟨S100, .f32⟩
  | 11 => ⟨S_, .i32⟩
  | 12 => ⟨S4100, .i32⟩
  | 13 => ⟨S4100, .i1⟩
  | 14 => ⟨S_, .i32⟩
  | 15 => ⟨S4100, .i32⟩
  | 16 => ⟨S4100, .i32⟩
  | 17 => ⟨S4100, .i32⟩
  | 18 => ⟨S4100x1, .i32⟩
  | 19 => ⟨S100, .f32⟩
  | 20 => ⟨S_, .f32⟩
  | 21 => ⟨S100, .f32⟩
  | 22 => ⟨S100, .i1⟩
  | 23 => ⟨S_, .f32⟩
  | 24 => ⟨S100, .f32⟩
  | 25 => ⟨S100, .i1⟩
  | 26 => ⟨S_, .f32⟩
  | 27 => ⟨S_, .f32⟩
  | 28 => ⟨S100, .f32⟩
  | 29 => ⟨S100, .f32⟩
  | 30 => ⟨S100, .f32⟩
  | 31 => ⟨S_, .f32⟩
  | 32 => ⟨S_, .f32⟩
  | 33 => ⟨S100, .f32⟩
  | 34 => ⟨S100, .f32⟩
  | 35 => ⟨S_, .i32⟩
  | 36 => ⟨S4100, .i32⟩
  | 37 => ⟨S4100, .i1⟩
  | 38 => ⟨S_, .i32⟩
  | 39 => ⟨S4100, .i32⟩
  | 40 => ⟨S4100, .i32⟩
  | 41 => ⟨S4100, .i32⟩
  | 42 => ⟨S4100x1, .i32⟩
  | 43 => ⟨S4100, .f32⟩
  | 44 => ⟨S4100, .f32⟩
  | 45 => ⟨S_, .i32⟩
  | 46 => ⟨S4100, .i32⟩
  | 47 => ⟨S4100, .i1⟩
  | 48 => ⟨S_, .i32⟩
  | 49 => ⟨S4100, .i32⟩
  | 50 => ⟨S4100, .i32⟩
  | 51 => ⟨S4100, .i32⟩
  | 52 => ⟨S4100x1, .i32⟩
  | 53 => ⟨S4100, .f32⟩
  | 54 => ⟨S4100, .f32⟩
  | 55 => ⟨S_, .f32⟩
  | 56 => ⟨S100x64, .f32⟩
  | 57 => ⟨S_, .i32⟩
  | 58 => ⟨S4100, .i32⟩
  | 59 => ⟨S4100, .i1⟩
  | 60 => ⟨S_, .i32⟩
  | 61 => ⟨S4100, .i32⟩
  | 62 => ⟨S4100, .i32⟩
  | 63 => ⟨S4100, .i32⟩
  | 64 => ⟨S4100x1, .i32⟩
  | 65 => ⟨S4100x64, .f32⟩
  | 66 => ⟨S4100x1, .f32⟩
  | 67 => ⟨S4100x64, .f32⟩
  | 68 => ⟨S4100x64, .f32⟩
  | 69 => ⟨S_, .i32⟩
  | 70 => ⟨S4100, .i32⟩
  | 71 => ⟨S4100, .i1⟩
  | 72 => ⟨S_, .i32⟩
  | 73 => ⟨S4100, .i32⟩
  | 74 => ⟨S4100, .i32⟩
  | 75 => ⟨S4100, .i32⟩
  | 76 => ⟨S4100x1, .i32⟩
  | 77 => ⟨S100x64, .f32⟩
  | 78 => ⟨S1x64, .f32⟩
  | 79 => ⟨S100x64, .f32⟩
  | 80 => ⟨S100x64, .f32⟩
  | 81 => ⟨S_, .f32⟩
  | 82 => ⟨S_, .f32⟩
  | 83 => ⟨S100x64, .f32⟩
  | 84 => ⟨S100x64, .i1⟩
  | 85 => ⟨S_, .f32⟩
  | 86 => ⟨S100x64, .f32⟩
  | 87 => ⟨S100x64, .f32⟩
  | 88 => ⟨S100x64, .f32⟩
  | 89 => ⟨S50x64, .f32⟩
  | 90 => ⟨S50x64, .f32⟩
  | 91 => ⟨S100x64, .f32⟩
  | 92 => ⟨S100x20, .f32⟩
  | 93 => ⟨S100, .i32⟩
  | 94 => ⟨S4100, .i32⟩
  | 95 => ⟨S4100, .i32⟩
  | 96 => ⟨S_, .f32⟩
  | 97 => ⟨S100, .f32⟩
  | 98 => ⟨S4100, .f32⟩
  | 99 => ⟨S_, .f32⟩
  | 100 => ⟨S100, .f32⟩
  | 101 => ⟨S_, .i32⟩
  | 102 => ⟨S4100, .i32⟩
  | 103 => ⟨S4100, .i1⟩
  | 104 => ⟨S_, .i32⟩
  | 105 => ⟨S4100, .i32⟩
  | 106 => ⟨S4100, .i32⟩
  | 107 => ⟨S4100, .i32⟩
  | 108 => ⟨S4100x1, .i32⟩
  | 109 => ⟨S100, .f32⟩
  | 110 => ⟨S_, .f32⟩
  | 111 => ⟨S100, .f32⟩
  | 112 => ⟨S100, .i1⟩
  | 113 => ⟨S_, .f32⟩
  | 114 => ⟨S100, .f32⟩
  | 115 => ⟨S100, .i1⟩
  | 116 => ⟨S_, .f32⟩
  | 117 => ⟨S_, .f32⟩
  | 118 => ⟨S100, .f32⟩
  | 119 => ⟨S100, .f32⟩
  | 120 => ⟨S100, .f32⟩
  | 121 => ⟨S_, .f32⟩
  | 122 => ⟨S_, .f32⟩
  | 123 => ⟨S100, .f32⟩
  | 124 => ⟨S100, .f32⟩
  | 125 => ⟨S_, .i32⟩
  | 126 => ⟨S4100, .i32⟩
  | 127 => ⟨S4100, .i1⟩
  | _ => ⟨S100x100, .f32⟩

abbrev hbmTy0_2 (i : Nat) : BufTy := match i % 128 with
  | 0 => ⟨S_, .i32⟩
  | 1 => ⟨S4100, .i32⟩
  | 2 => ⟨S4100, .i32⟩
  | 3 => ⟨S4100, .i32⟩
  | 4 => ⟨S4100x1, .i32⟩
  | 5 => ⟨S4100, .f32⟩
  | 6 => ⟨S4100, .f32⟩
  | 7 => ⟨S_, .i32⟩
  | 8 => ⟨S4100, .i32⟩
  | 9 => ⟨S4100, .i1⟩
  | 10 => ⟨S_, .i32⟩
  | 11 => ⟨S4100, .i32⟩
  | 12 => ⟨S4100, .i32⟩
  | 13 => ⟨S4100, .i32⟩
  | 14 => ⟨S4100x1, .i32⟩
  | 15 => ⟨S4100, .f32⟩
  | 16 => ⟨S4100, .f32⟩
  | 17 => ⟨S_, .f32⟩
  | 18 => ⟨S100x20, .f32⟩
  | 19 => ⟨S_, .i32⟩
  | 20 => ⟨S4100, .i32⟩
  | 21 => ⟨S4100, .i1⟩
  | 22 => ⟨S_, .i32⟩
  | 23 => ⟨S4100, .i32⟩
  | 24 => ⟨S4100, .i32⟩
  | 25 => ⟨S4100, .i32⟩
  | 26 => ⟨S4100x1, .i32⟩
  | 27 => ⟨S4100x20, .f32⟩
  | 28 => ⟨S4100x1, .f32⟩
  | 29 => ⟨S4100x20, .f32⟩
  | 30 => ⟨S4100x20, .f32⟩
  | 31 => ⟨S_, .i32⟩
  | 32 => ⟨S4100, .i32⟩
  | 33 => ⟨S4100, .i1⟩
  | 34 => ⟨S_, .i32⟩
  | 35 => ⟨S4100, .i32⟩
  | 36 => ⟨S4100, .i32⟩
  | 37 => ⟨S4100, .i32⟩
  | 38 => ⟨S4100x1, .i32⟩
  | 39 => ⟨S100x20, .f32⟩
  | 40 => ⟨S1x20, .f32⟩
  | 41 => ⟨S100x20, .f32⟩
  | 42 => ⟨S100x20, .f32⟩
  | 43 => ⟨S_, .f32⟩
  | 44 => ⟨S_, .f32⟩
  | 45 => ⟨S100x20, .f32⟩
  | 46 => ⟨S100x20, .i1⟩
  | 47 => ⟨S_, .f32⟩
  | 48 => ⟨S100x20, .f32⟩
  | 49 => ⟨S100x20, .f32⟩
  | 50 => ⟨S100x20, .f32⟩
  | 51 => ⟨S100x20, .f32⟩
  | 52 => ⟨S100, .i32⟩
  | 53 => ⟨S4100, .i32⟩
  | 54 => ⟨S4100, .i32⟩
  | 55 => ⟨S_, .f32⟩
  | 56 => ⟨S100, .f32⟩
  | 57 => ⟨S4100, .f32⟩
  | 58 => ⟨S_, .f32⟩
  | 59 => ⟨S100, .f32⟩
  | 60 => ⟨S_, .i32⟩
  | 61 => ⟨S4100, .i32⟩
  | 62 => ⟨S4100, .i1⟩
  | 63 => ⟨S_, .i32⟩
  | 64 => ⟨S4100, .i32⟩
  | 65 => ⟨S4100, .i32⟩
  | 66 => ⟨S4100, .i32⟩
  | 67 => ⟨S4100x1, .i32⟩
  | 68 => ⟨S100, .f32⟩
  | 69 => ⟨S_, .f32⟩
  | 70 => ⟨S100, .f32⟩
  | 71 => ⟨S100, .i1⟩
  | 72 => ⟨S_, .f32⟩
  | 73 => ⟨S100, .f32⟩
  | 74 => ⟨S100, .i1⟩
  | 75 => ⟨S_, .f32⟩
  | 76 => ⟨S_, .f32⟩
  | 77 => ⟨S100, .f32⟩
  | 78 => ⟨S100, .f32⟩
  | 79 => ⟨S100, .f32⟩
  | 80 => ⟨S_, .f32⟩
  | 81 => ⟨S_, .f32⟩
  | 82 => ⟨S100, .f32⟩
  | 83 => ⟨S100, .f32⟩
  | 84 => ⟨S_, .i32⟩
  | 85 => ⟨S4100, .i32⟩
  | 86 => ⟨S4100, .i1⟩
  | 87 => ⟨S_, .i32⟩
  | 88 => ⟨S4100, .i32⟩
  | 89 => ⟨S4100, .i32⟩
  | 90 => ⟨S4100, .i32⟩
  | 91 => ⟨S4100x1, .i32⟩
  | 92 => ⟨S4100, .f32⟩
  | 93 => ⟨S4100, .f32⟩
  | 94 => ⟨S_, .i32⟩
  | 95 => ⟨S4100, .i32⟩
  | 96 => ⟨S4100, .i1⟩
  | 97 => ⟨S_, .i32⟩
  | 98 => ⟨S4100, .i32⟩
  | 99 => ⟨S4100, .i32⟩
  | 100 => ⟨S4100, .i32⟩
  | 101 => ⟨S4100x1, .i32⟩
  | 102 => ⟨S4100, .f32⟩
  | 103 => ⟨S4100, .f32⟩
  | 104 => ⟨S_, .f32⟩
  | 105 => ⟨S100x20, .f32⟩
  | 106 => ⟨S_, .i32⟩
  | 107 => ⟨S4100, .i32⟩
  | 108 => ⟨S4100, .i1⟩
  | 109 => ⟨S_, .i32⟩
  | 110 => ⟨S4100, .i32⟩
  | 111 => ⟨S4100, .i32⟩
  | 112 => ⟨S4100, .i32⟩
  | 113 => ⟨S4100x1, .i32⟩
  | 114 => ⟨S4100x20, .f32⟩
  | 115 => ⟨S4100x1, .f32⟩
  | 116 => ⟨S4100x20, .f32⟩
  | 117 => ⟨S4100x20, .f32⟩
  | 118 => ⟨S_, .i32⟩
  | 119 => ⟨S4100, .i32⟩
  | 120 => ⟨S4100, .i1⟩
  | 121 => ⟨S_, .i32⟩
  | 122 => ⟨S4100, .i32⟩
  | 123 => ⟨S4100, .i32⟩
  | 124 => ⟨S4100, .i32⟩
  | 125 => ⟨S4100x1, .i32⟩
  | 126 => ⟨S100x20, .f32⟩
  | 127 => ⟨S1x20, .f32⟩
  | _ => ⟨S100x100, .f32⟩

abbrev hbmTy0_3 (i : Nat) : BufTy := match i % 128 with
  | 0 => ⟨S100x20, .f32⟩
  | 1 => ⟨S100x20, .f32⟩
  | 2 => ⟨S_, .f32⟩
  | 3 => ⟨S_, .f32⟩
  | 4 => ⟨S100x20, .f32⟩
  | 5 => ⟨S100x20, .i1⟩
  | 6 => ⟨S_, .f32⟩
  | 7 => ⟨S100x20, .f32⟩
  | 8 => ⟨S100x20, .f32⟩
  | 9 => ⟨S100x20, .f32⟩
  | 10 => ⟨S50x20, .f32⟩
  | 11 => ⟨S50x20, .f32⟩
  | 12 => ⟨S100x20, .f32⟩
  | 13 => ⟨S100x20, .f32⟩
  | 14 => ⟨S100, .i32⟩
  | 15 => ⟨S4100, .i32⟩
  | 16 => ⟨S4100, .i32⟩
  | 17 => ⟨S_, .f32⟩
  | 18 => ⟨S100, .f32⟩
  | 19 => ⟨S4100, .f32⟩
  | 20 => ⟨S_, .f32⟩
  | 21 => ⟨S100, .f32⟩
  | 22 => ⟨S_, .i32⟩
  | 23 => ⟨S4100, .i32⟩
  | 24 => ⟨S4100, .i1⟩
  | 25 => ⟨S_, .i32⟩
  | 26 => ⟨S4100, .i32⟩
  | 27 => ⟨S4100, .i32⟩
  | 28 => ⟨S4100, .i32⟩
  | 29 => ⟨S4100x1, .i32⟩
  | 30 => ⟨S100, .f32⟩
  | 31 => ⟨S_, .f32⟩
  | 32 => ⟨S100, .f32⟩
  | 33 => ⟨S100, .i1⟩
  | 34 => ⟨S_, .f32⟩
  | 35 => ⟨S100, .f32⟩
  | 36 => ⟨S100, .i1⟩
  | 37 => ⟨S_, .f32⟩
  | 38 => ⟨S_, .f32⟩
  | 39 => ⟨S100, .f32⟩
  | 40 => ⟨S100, .f32⟩
  | 41 => ⟨S100, .f32⟩
  | 42 => ⟨S_, .f32⟩
  | 43 => ⟨S_, .f32⟩
  | 44 => ⟨S100, .f32⟩
  | 45 => ⟨S100, .f32⟩
  | 46 => ⟨S_, .i32⟩
  | 47 => ⟨S4100, .i32⟩
  | 48 => ⟨S4100, .i1⟩
  | 49 => ⟨S_, .i32⟩
  | 50 => ⟨S4100, .i32⟩
  | 51 => ⟨S4100, .i32⟩
  | 52 => ⟨S4100, .i32⟩
  | 53 => ⟨S4100x1, .i32⟩
  | 54 => ⟨S4100, .f32⟩
  | 55 => ⟨S4100, .f32⟩
  | 56 => ⟨S_, .i32⟩
  | 57 => ⟨S4100, .i32⟩
  | 58 => ⟨S4100, .i1⟩
  | 59 => ⟨S_, .i32⟩
  | 60 => ⟨S4100, .i32⟩
  | 61 => ⟨S4100, .i32⟩
  | 62 => ⟨S4100, .i32⟩
  | 63 => ⟨S4100x1, .i32⟩
  | 64 => ⟨S4100, .f32⟩
  | 65 => ⟨S4100, .f32⟩
  | 66 => ⟨S_, .f32⟩
  | 67 => ⟨S100x20, .f32⟩
  | 68 => ⟨S_, .i32⟩
  | 69 => ⟨S4100, .i32⟩
  | 70 => ⟨S4100, .i1⟩
  | 71 => ⟨S_, .i32⟩
  | 72 => ⟨S4100, .i32⟩
  | 73 => ⟨S4100, .i32⟩
  | 74 => ⟨S4100, .i32⟩
  | 75 => ⟨S4100x1, .i32⟩
  | 76 => ⟨S4100x20, .f32⟩
  | 77 => ⟨S4100x1, .f32⟩
  | 78 => ⟨S4100x20, .f32⟩
  | 79 => ⟨S4100x20, .f32⟩
  | 80 => ⟨S_, .i32⟩
  | 81 => ⟨S4100, .i32⟩
  | 82 => ⟨S4100, .i1⟩
  | 83 => ⟨S_, .i32⟩
  | 84 => ⟨S4100, .i32⟩
  | 85 => ⟨S4100, .i32⟩
  | 86 => ⟨S4100, .i32⟩
  | 87 => ⟨S4100x1, .i32⟩
  | 88 => ⟨S100x20, .f32⟩
  | 89 => ⟨S1x20, .f32⟩
  | 90 => ⟨S100x20, .f32⟩
  | 91 => ⟨S100x20, .f32⟩
  | 92 => ⟨S_, .f32⟩
  | 93 => ⟨S_, .f32⟩
  | 94 => ⟨S100x20, .f32⟩
  | 95 => ⟨S100x20, .i1⟩
  | 96 => ⟨S_, .f32⟩
  | 97 => ⟨S100x20, .f32⟩
  | 98 => ⟨S100x20, .f32⟩
  | 99 => ⟨S100x20, .f32⟩
  | 100 => ⟨S_, .f32⟩
  | 101 => ⟨S100x20, .f32⟩
  | 102 => ⟨S_, .i32⟩
  | 103 => ⟨S4000, .i32⟩
  | 104 => ⟨S4000, .i1⟩
  | 105 => ⟨S_, .i32⟩
  | 106 => ⟨S4000, .i32⟩
  | 107 => ⟨S4000, .i32⟩
  | 108 => ⟨S4000, .i32⟩
  | 109 => ⟨S4000x1, .i32⟩
  | 110 => ⟨S4000x20, .f32⟩
  | 111 => ⟨S_, .i32⟩
  | 112 => ⟨S4000, .i32⟩
  | 113 => ⟨S4000, .i1⟩
  | 114 => ⟨S_, .i32⟩
  | 115 => ⟨S4000, .i32⟩
  | 116 => ⟨S4000, .i32⟩
  | 117 => ⟨S4000, .i32⟩
  | 118 => ⟨S4000x1, .i32⟩
  | 119 => ⟨S100x20, .f32⟩
  | 120 => ⟨S100x1, .f32⟩
  | 121 => ⟨S1x1, .f32⟩
  | 122 => ⟨S100x1, .f32⟩
  | 123 => ⟨S100x1, .f32⟩
  | 124 => ⟨S100x1, .f32⟩
  | 125 => ⟨S100x1, .f32⟩
  | 126 => ⟨S100, .f32⟩
  | 127 => ⟨S100, .f32⟩
  | _ => ⟨S100x100, .f32⟩

abbrev hbmTy0_4 (i : Nat) : BufTy := match i % 128 with
  | 0 => ⟨S50, .f32⟩
  | 1 => ⟨S50, .i32⟩
  | 2 => ⟨S_, .i32⟩
  | 3 => ⟨S50, .i32⟩
  | 4 => ⟨S50, .i1⟩
  | 5 => ⟨S_, .i32⟩
  | 6 => ⟨S50, .i32⟩
  | 7 => ⟨S50, .i32⟩
  | 8 => ⟨S50, .i32⟩
  | 9 => ⟨S50x1, .i32⟩
  | 10 => ⟨S50x20, .f32⟩
  | 11 => ⟨S50x1, .f32⟩
  | 12 => ⟨S50x20, .f32⟩
  | 13 => ⟨S50x20, .f32⟩
  | 14 => ⟨S_, .i1⟩
  | 15 => ⟨S100, .i1⟩
  | 16 => ⟨S_, .i32⟩
  | 17 => ⟨S50, .i32⟩
  | 18 => ⟨S50, .i1⟩
  | 19 => ⟨S_, .i32⟩
  | 20 => ⟨S50, .i32⟩
  | 21 => ⟨S50, .i32⟩
  | 22 => ⟨S50, .i32⟩
  | 23 => ⟨S50x1, .i32⟩
  | 24 => ⟨S_, .i1⟩
  | 25 => ⟨S50, .i1⟩
  | 26 => ⟨S100, .i1⟩
  | 27 => ⟨S_, .i32⟩
  | 28 => ⟨S100, .i32⟩
  | 29 => ⟨S50, .i32⟩
  | 30 => ⟨S_, .i32⟩
  | 31 => ⟨S50, .i32⟩
  | 32 => ⟨S50, .i1⟩
  | 33 => ⟨S_, .i32⟩
  | 34 => ⟨S50, .i32⟩
  | 35 => ⟨S50, .i32⟩
  | 36 => ⟨S50, .i32⟩
  | 37 => ⟨S50x1, .i32⟩
  | 38 => ⟨S100, .i32⟩
  | 39 => ⟨S_, .i32⟩
  | 40 => ⟨S4000, .i32⟩
  | 41 => ⟨S4000, .i1⟩
  | 42 => ⟨S_, .i32⟩
  | 43 => ⟨S4000, .i32⟩
  | 44 => ⟨S4000, .i32⟩
  | 45 => ⟨S4000, .i32⟩
  | 46 => ⟨S4000x1, .i32⟩
  | 47 => ⟨S4000, .i1⟩
  | 48 => ⟨S_, .i32⟩
  | 49 => ⟨S4000, .i32⟩
  | 50 => ⟨S4000, .i1⟩
  | 51 => ⟨S_, .i32⟩
  | 52 => ⟨S4000, .i32⟩
  | 53 => ⟨S4000, .i32⟩
  | 54 => ⟨S4000, .i32⟩
  | 55 => ⟨S4000x1, .i32⟩
  | 56 => ⟨S4000, .i1⟩
  | 57 => ⟨S4000, .i1⟩
  | 58 => ⟨S4000, .f32⟩
  | 59 => ⟨S_, .i32⟩
  | 60 => ⟨S4000, .i32⟩
  | 61 => ⟨S4000, .i1⟩
  | 62 => ⟨S_, .i32⟩
  | 63 => ⟨S4000, .i32⟩
  | 64 => ⟨S4000, .i32⟩
  | 65 => ⟨S4000, .i32⟩
  | 66 => ⟨S4000x1, .i32⟩
  | 67 => ⟨S4000, .i32⟩
  | 68 => ⟨S_, .i32⟩
  | 69 => ⟨S4000, .i32⟩
  | 70 => ⟨S4000, .i1⟩
  | 71 => ⟨S_, .i32⟩
  | 72 => ⟨S4000, .i32⟩
  | 73 => ⟨S4000, .i32⟩
  | 74 => ⟨S4000, .i32⟩
  | 75 => ⟨S4000x1, .i32⟩
  | 76 => ⟨S4000, .i32⟩
  | 77 => ⟨S_, .f32⟩
  | 78 => ⟨S100, .f32⟩
  | 79 => ⟨S_, .i32⟩
  | 80 => ⟨S4000, .i32⟩
  | 81 => ⟨S4000, .i1⟩
  | 82 => ⟨S_, .i32⟩
  | 83 => ⟨S4000, .i32⟩
  | 84 => ⟨S4000, .i32⟩
  | 85 => ⟨S4000, .i32⟩
  | 86 => ⟨S4000x1, .i32⟩
  | 87 => ⟨S100, .f32⟩
  | 88 => ⟨S_, .f32⟩
  | 89 => ⟨S100, .f32⟩
  | 90 => ⟨S100, .i1⟩
  | 91 => ⟨S_, .f32⟩
  | 92 => ⟨S100, .f32⟩
  | 93 => ⟨S100, .i1⟩
  | 94 => ⟨S_, .f32⟩
  | 95 => ⟨S_, .f32⟩
  | 96 => ⟨S100, .f32⟩
  | 97 => ⟨S100, .f32⟩
  | 98 => ⟨S100, .f32⟩
  | 99 => ⟨S_, .f32⟩
  | 100 => ⟨S_, .f32⟩
  | 101 => ⟨S100, .f32⟩
  | 102 => ⟨S100, .f32⟩
  | 103 => ⟨S_, .i32⟩
  | 104 => ⟨S4000, .i32⟩
  | 105 => ⟨S4000, .i1⟩
  | 106 => ⟨S_, .i32⟩
  | 107 => ⟨S4000, .i32⟩
  | 108 => ⟨S4000, .i32⟩
  | 109 => ⟨S4000, .i32⟩
  | 110 => ⟨S4000x1, .i32⟩
  | 111 => ⟨S4000, .f32⟩
  | 112 => ⟨S4000, .f32⟩
  | 113 => ⟨S4000, .f32⟩
  | 114 => ⟨S_, .i32⟩
  | 115 => ⟨S4000, .i32⟩
  | 116 => ⟨S4000, .i1⟩
  | 117 => ⟨S_, .i32⟩
  | 118 => ⟨S4000, .i32⟩
  | 119 => ⟨S4000, .i32⟩
  | 120 => ⟨S4000, .i32⟩
  | 121 => ⟨S4000x1, .i32⟩
  | 122 => ⟨S4000, .f32⟩
  | 123 => ⟨S4000, .f32⟩
  | 124 => ⟨S_, .f32⟩
  | 125 => ⟨S100x20, .f32⟩
  | 126 => ⟨S_, .i32⟩
  | 127 => ⟨S4000, .i32⟩
  | _ => ⟨S100x100, .f32⟩

abbrev hbmTy0_5 (i : Nat) : BufTy := match i % 128 with
  | 0 => ⟨S4000, .i1⟩
  | 1 => ⟨S_, .i32⟩
  | 2 => ⟨S4000, .i32⟩
  | 3 => ⟨S4000, .i32⟩
  | 4 => ⟨S4000, .i32⟩
  | 5 => ⟨S4000x1, .i32⟩
  | 6 => ⟨S4000x20, .f32⟩
  | 7 => ⟨S4000x1, .f32⟩
  | 8 => ⟨S4000x20, .f32⟩
  | 9 => ⟨S4000x20, .f32⟩
  | 10 => ⟨S_, .i32⟩
  | 11 => ⟨S4000, .i32⟩
  | 12 => ⟨S4000, .i1⟩
  | 13 => ⟨S_, .i32⟩
  | 14 => ⟨S4000, .i32⟩
  | 15 => ⟨S4000, .i32⟩
  | 16 => ⟨S4000, .i32⟩
  | 17 => ⟨S4000x1, .i32⟩
  | 18 => ⟨S100x20, .f32⟩
  | 19 => ⟨S_, .f32⟩
  | 20 => ⟨S100x20, .f32⟩
  | 21 => ⟨S_, .i32⟩
  | 22 => ⟨S4000, .i32⟩
  | 23 => ⟨S4000, .i1⟩
  | 24 => ⟨S_, .i32⟩
  | 25 => ⟨S4000, .i32⟩
  | 26 => ⟨S4000, .i32⟩
  | 27 => ⟨S4000, .i32⟩
  | 28 => ⟨S4000x1, .i32⟩
  | 29 => ⟨S4000x20, .f32⟩
  | 30 => ⟨S4000x1, .f32⟩
  | 31 => ⟨S4000x20, .f32⟩
  | 32 => ⟨S4000x20, .f32⟩
  | 33 => ⟨S_, .i32⟩
  | 34 => ⟨S4000, .i32⟩
  | 35 => ⟨S4000, .i1⟩
  | 36 => ⟨S_, .i32⟩
  | 37 => ⟨S4000, .i32⟩
  | 38 => ⟨S4000, .i32⟩
  | 39 => ⟨S4000, .i32⟩
  | 40 => ⟨S4000x1, .i32⟩
  | 41 => ⟨S100x20, .f32⟩
  | 42 => ⟨S_, .f32⟩
  | 43 => ⟨S100x20, .f32⟩
  | 44 => ⟨S100x20, .f32⟩
  | 45 => ⟨S100x20, .f32⟩
  | 46 => ⟨S100x50, .f32⟩
  | 47 => ⟨S100x50, .f32⟩
  | 48 => ⟨S100x50, .f32⟩
  | 49 => ⟨S100x50, .f32⟩
  | 50 => ⟨S100x50, .f32⟩
  | 51 => ⟨S1x50, .f32⟩
  | 52 => ⟨S100x50, .f32⟩
  | 53 => ⟨S100x50, .f32⟩
  | 54 => ⟨S_, .f32⟩
  | 55 => ⟨S100, .f32⟩
  | 56 => ⟨S_, .f32⟩
  | 57 => ⟨S100, .f32⟩
  | 58 => ⟨S100, .f32⟩
  | 59 => ⟨S100x1, .f32⟩
  | 60 => ⟨S100x50, .f32⟩
  | 61 => ⟨S100x50, .f32⟩
  | 62 => ⟨S100x50, .f32⟩
  | 63 => ⟨S_, .f32⟩
  | 64 => ⟨S100, .f32⟩
  | 65 => ⟨S100x1, .f32⟩
  | 66 => ⟨S100x50, .f32⟩
  | 67 => ⟨S100x50, .f32⟩
  | 68 => ⟨S_, .f32⟩
  | 69 => ⟨S100, .f32⟩
  | 70 => ⟨S_, .f32⟩
  | 71 => ⟨S100, .f32⟩
  | 72 => ⟨S100, .f32⟩
  | 73 => ⟨S100x1, .f32⟩
  | 74 => ⟨S100x50, .f32⟩
  | 75 => ⟨S100x50, .f32⟩
  | 76 => ⟨S100x50, .f32⟩
  | 77 => ⟨S_, .f32⟩
  | 78 => ⟨S100, .f32⟩
  | 79 => ⟨S100x1, .f32⟩
  | 80 => ⟨S100x50, .f32⟩
  | 81 => ⟨S100x50, .f32⟩
  | 82 => ⟨S50x100, .f32⟩
  | 83 => ⟨S50x20, .f32⟩
  | 84 => ⟨S50, .i32⟩
  | 85 => ⟨S_, .i32⟩
  | 86 => ⟨S50, .i32⟩
  | 87 => ⟨S50, .i1⟩
  | 88 => ⟨S_, .i32⟩
  | 89 => ⟨S50, .i32⟩
  | 90 => ⟨S50, .i32⟩
  | 91 => ⟨S50, .i32⟩
  | 92 => ⟨S50x1, .i32⟩
  | 93 => ⟨S50x50, .f32⟩
  | 94 => ⟨S50x20, .f32⟩
  | 95 => ⟨S50x20, .f32⟩
  | _ => ⟨S100x100, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S100x100, .f32⟩

abbrev bufTy : (tb : Table) → Fin (tcTables nBuf tb) → BufTy
  | .hbm, ⟨i, _⟩ => hbmTy i
  | _, _ => ⟨S100x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_c_1 : Ref sig .tc := ⟨.hbm, 33, rfl⟩
abbrev main_v10 : Ref sig .tc := ⟨.hbm, 34, rfl⟩
abbrev main_v11 : Ref sig .tc := ⟨.hbm, 35, rfl⟩
abbrev main_c_2 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst : Ref sig .tc := ⟨.hbm, 47, rfl⟩
abbrev main_v22 : Ref sig .tc := ⟨.hbm, 48, rfl⟩
abbrev main_v23 : Ref sig .tc := ⟨.hbm, 49, rfl⟩
abbrev main_cst_3 : Ref sig .tc := ⟨.hbm, 50, rfl⟩
abbrev main_v24 : Ref sig .tc := ⟨.hbm, 51, rfl⟩
abbrev main_c_4 : Ref sig .tc := ⟨.hbm, 52, rfl⟩
abbrev main_v25 : Ref sig .tc := ⟨.hbm, 53, rfl⟩
abbrev main_v26 : Ref sig .tc := ⟨.hbm, 54, rfl⟩
abbrev main_c_5 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_6 : Ref sig .tc := ⟨.hbm, 61, rfl⟩
abbrev main_v32 : Ref sig .tc := ⟨.hbm, 62, rfl⟩
abbrev main_v33 : Ref sig .tc := ⟨.hbm, 63, rfl⟩
abbrev main_cst_7 : Ref sig .tc := ⟨.hbm, 64, rfl⟩
abbrev main_v34 : Ref sig .tc := ⟨.hbm, 65, rfl⟩
abbrev main_v35 : Ref sig .tc := ⟨.hbm, 66, rfl⟩
abbrev main_cst_8 : Ref sig .tc := ⟨.hbm, 67, rfl⟩
abbrev main_call0_v0 : Ref sig .tc := ⟨.hbm, 68, rfl⟩
abbrev main_call0_v1 : Ref sig .tc := ⟨.hbm, 69, rfl⟩
abbrev main_v36 : Ref sig .tc := ⟨.hbm, 70, rfl⟩
abbrev main_v37 : Ref sig .tc := ⟨.hbm, 71, rfl⟩
abbrev main_cst_9 : Ref sig .tc := ⟨.hbm, 72, rfl⟩
abbrev main_call1_v0 : Ref sig .tc := ⟨.hbm, 73, rfl⟩
abbrev main_call1_v1 : Ref sig .tc := ⟨.hbm, 74, rfl⟩
abbrev main_v38 : Ref sig .tc := ⟨.hbm, 75, rfl⟩
abbrev main_c_10 : Ref sig .tc := ⟨.hbm, 76, rfl⟩
abbrev main_v39 : Ref sig .tc := ⟨.hbm, 77, rfl⟩
abbrev main_v40 : Ref sig .tc := ⟨.hbm, 78, rfl⟩
abbrev main_c_11 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_c_12 : Ref sig .tc := ⟨.hbm, 86, rfl⟩
abbrev main_v47 : Ref sig .tc := ⟨.hbm, 87, rfl⟩
abbrev main_v48 : Ref sig .tc := ⟨.hbm, 88, rfl⟩
abbrev main_c_13 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_cst_14 : Ref sig .tc := ⟨.hbm, 96, rfl⟩
abbrev main_v55 : Ref sig .tc := ⟨.hbm, 97, rfl⟩
abbrev main_c_15 : Ref sig .tc := ⟨.hbm, 98, rfl⟩
abbrev main_v56 : Ref sig .tc := ⟨.hbm, 99, rfl⟩
abbrev main_v57 : Ref sig .tc := ⟨.hbm, 100, rfl⟩
abbrev main_c_16 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_c_17 : Ref sig .tc := ⟨.hbm, 110, rfl⟩
abbrev main_v66 : Ref sig .tc := ⟨.hbm, 111, rfl⟩
abbrev main_v67 : Ref sig .tc := ⟨.hbm, 112, rfl⟩
abbrev main_c_18 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_cst_19 : Ref sig .tc := ⟨.hbm, 122, rfl⟩
abbrev main_call2_cst : Ref sig .tc := ⟨.hbm, 123, rfl⟩
abbrev main_call2_v0 : Ref sig .tc := ⟨.hbm, 124, rfl⟩
abbrev main_call2_v1 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_cst_20 : Ref sig .tc := ⟨.hbm, 134, rfl⟩
abbrev main_v81 : Ref sig .tc := ⟨.hbm, 135, rfl⟩
abbrev main_v82 : Ref sig .tc := ⟨.hbm, 136, rfl⟩
abbrev main_cst_21 : Ref sig .tc := ⟨.hbm, 137, rfl⟩
abbrev main_v83 : Ref sig .tc := ⟨.hbm, 138, rfl⟩
abbrev main_c_22 : Ref sig .tc := ⟨.hbm, 139, rfl⟩
abbrev main_v84 : Ref sig .tc := ⟨.hbm, 140, rfl⟩
abbrev main_v85 : Ref sig .tc := ⟨.hbm, 141, rfl⟩
abbrev main_c_23 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_cst_24 : Ref sig .tc := ⟨.hbm, 148, rfl⟩
abbrev main_v91 : Ref sig .tc := ⟨.hbm, 149, rfl⟩
abbrev main_v92 : Ref sig .tc := ⟨.hbm, 150, rfl⟩
abbrev main_cst_25 : Ref sig .tc := ⟨.hbm, 151, rfl⟩
abbrev main_v93 : Ref sig .tc := ⟨.hbm, 152, rfl⟩
abbrev main_v94 : Ref sig .tc := ⟨.hbm, 153, rfl⟩
abbrev main_cst_26 : Ref sig .tc := ⟨.hbm, 154, rfl⟩
abbrev main_call3_v0 : Ref sig .tc := ⟨.hbm, 155, rfl⟩
abbrev main_call3_v1 : Ref sig .tc := ⟨.hbm, 156, rfl⟩
abbrev main_v95 : Ref sig .tc := ⟨.hbm, 157, rfl⟩
abbrev main_v96 : Ref sig .tc := ⟨.hbm, 158, rfl⟩
abbrev main_cst_27 : Ref sig .tc := ⟨.hbm, 159, rfl⟩
abbrev main_call4_v0 : Ref sig .tc := ⟨.hbm, 160, rfl⟩
abbrev main_call4_v1 : Ref sig .tc := ⟨.hbm, 161, rfl⟩
abbrev main_v97 : Ref sig .tc := ⟨.hbm, 162, rfl⟩
abbrev main_c_28 : Ref sig .tc := ⟨.hbm, 163, rfl⟩
abbrev main_v98 : Ref sig .tc := ⟨.hbm, 164, rfl⟩
abbrev main_v99 : Ref sig .tc := ⟨.hbm, 165, rfl⟩
abbrev main_c_29 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_c_30 : Ref sig .tc := ⟨.hbm, 173, rfl⟩
abbrev main_v106 : Ref sig .tc := ⟨.hbm, 174, rfl⟩
abbrev main_v107 : Ref sig .tc := ⟨.hbm, 175, rfl⟩
abbrev main_c_31 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_cst_32 : Ref sig .tc := ⟨.hbm, 183, rfl⟩
abbrev main_v114 : Ref sig .tc := ⟨.hbm, 184, rfl⟩
abbrev main_c_33 : Ref sig .tc := ⟨.hbm, 185, rfl⟩
abbrev main_v115 : Ref sig .tc := ⟨.hbm, 186, rfl⟩
abbrev main_v116 : Ref sig .tc := ⟨.hbm, 187, rfl⟩
abbrev main_c_34 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_c_35 : Ref sig .tc := ⟨.hbm, 197, rfl⟩
abbrev main_v125 : Ref sig .tc := ⟨.hbm, 198, rfl⟩
abbrev main_v126 : Ref sig .tc := ⟨.hbm, 199, rfl⟩
abbrev main_c_36 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_cst_37 : Ref sig .tc := ⟨.hbm, 209, rfl⟩
abbrev main_call5_cst : Ref sig .tc := ⟨.hbm, 210, rfl⟩
abbrev main_call5_v0 : Ref sig .tc := ⟨.hbm, 211, rfl⟩
abbrev main_call5_v1 : Ref sig .tc := ⟨.hbm, 212, rfl⟩
abbrev main_call5_v2 : Ref sig .tc := ⟨.hbm, 213, rfl⟩
abbrev main_call5_v3 : Ref sig .tc := ⟨.hbm, 214, rfl⟩
abbrev main_call5_v4 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_cst_38 : Ref sig .tc := ⟨.hbm, 224, rfl⟩
abbrev main_v143 : Ref sig .tc := ⟨.hbm, 225, rfl⟩
abbrev main_v144 : Ref sig .tc := ⟨.hbm, 226, rfl⟩
abbrev main_cst_39 : Ref sig .tc := ⟨.hbm, 227, rfl⟩
abbrev main_v145 : Ref sig .tc := ⟨.hbm, 228, rfl⟩
abbrev main_c_40 : Ref sig .tc := ⟨.hbm, 229, rfl⟩
abbrev main_v146 : Ref sig .tc := ⟨.hbm, 230, rfl⟩
abbrev main_v147 : Ref sig .tc := ⟨.hbm, 231, rfl⟩
abbrev main_c_41 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_cst_42 : Ref sig .tc := ⟨.hbm, 238, rfl⟩
abbrev main_v153 : Ref sig .tc := ⟨.hbm, 239, rfl⟩
abbrev main_v154 : Ref sig .tc := ⟨.hbm, 240, rfl⟩
abbrev main_cst_43 : Ref sig .tc := ⟨.hbm, 241, rfl⟩
abbrev main_v155 : Ref sig .tc := ⟨.hbm, 242, rfl⟩
abbrev main_v156 : Ref sig .tc := ⟨.hbm, 243, rfl⟩
abbrev main_cst_44 : Ref sig .tc := ⟨.hbm, 244, rfl⟩
abbrev main_call6_v0 : Ref sig .tc := ⟨.hbm, 245, rfl⟩
abbrev main_call6_v1 : Ref sig .tc := ⟨.hbm, 246, rfl⟩
abbrev main_v157 : Ref sig .tc := ⟨.hbm, 247, rfl⟩
abbrev main_v158 : Ref sig .tc := ⟨.hbm, 248, rfl⟩
abbrev main_cst_45 : Ref sig .tc := ⟨.hbm, 249, rfl⟩
abbrev main_call7_v0 : Ref sig .tc := ⟨.hbm, 250, rfl⟩
abbrev main_call7_v1 : Ref sig .tc := ⟨.hbm, 251, rfl⟩
abbrev main_v159 : Ref sig .tc := ⟨.hbm, 252, rfl⟩
abbrev main_c_46 : Ref sig .tc := ⟨.hbm, 253, rfl⟩
abbrev main_v160 : Ref sig .tc := ⟨.hbm, 254, rfl⟩
abbrev main_v161 : Ref sig .tc := ⟨.hbm, 255, rfl⟩
abbrev main_c_47 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_v167 : Ref sig .tc := ⟨.hbm, 262, rfl⟩
abbrev main_c_48 : Ref sig .tc := ⟨.hbm, 263, rfl⟩
abbrev main_v168 : Ref sig .tc := ⟨.hbm, 264, rfl⟩
abbrev main_v169 : Ref sig .tc := ⟨.hbm, 265, rfl⟩
abbrev main_c_49 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_v173 : Ref sig .tc := ⟨.hbm, 270, rfl⟩
abbrev main_v174 : Ref sig .tc := ⟨.hbm, 271, rfl⟩
abbrev main_v175 : Ref sig .tc := ⟨.hbm, 272, rfl⟩
abbrev main_cst_50 : Ref sig .tc := ⟨.hbm, 273, rfl⟩
abbrev main_v176 : Ref sig .tc := ⟨.hbm, 274, rfl⟩
abbrev main_c_51 : Ref sig .tc := ⟨.hbm, 275, rfl⟩
abbrev main_v177 : Ref sig .tc := ⟨.hbm, 276, rfl⟩
abbrev main_v178 : Ref sig .tc := ⟨.hbm, 277, rfl⟩
abbrev main_c_52 : Ref sig .tc := ⟨.hbm, 278, rfl⟩
abbrev main_v179 : Ref sig .tc := ⟨.hbm, 279, rfl⟩
abbrev main_v180 : Ref sig .tc := ⟨.hbm, 280, rfl⟩
abbrev main_v181 : Ref sig .tc := ⟨.hbm, 281, rfl⟩
abbrev main_v182 : Ref sig .tc := ⟨.hbm, 282, rfl⟩
abbrev main_v183 : Ref sig .tc := ⟨.hbm, 283, rfl⟩
abbrev main_v184 : Ref sig .tc := ⟨.hbm, 284, rfl⟩
abbrev main_v185 : Ref sig .tc := ⟨.hbm, 285, rfl⟩
abbrev main_v186 : Ref sig .tc := ⟨.hbm, 286, rfl⟩
abbrev main_c_53 : Ref sig .tc := ⟨.hbm, 287, rfl⟩
abbrev main_v187 : Ref sig .tc := ⟨.hbm, 288, rfl⟩
abbrev main_v188 : Ref sig .tc := ⟨.hbm, 289, rfl⟩
abbrev main_c_54 : Ref sig .tc := ⟨.hbm, 290, rfl⟩
abbrev main_v189 : Ref sig .tc := ⟨.hbm, 291, rfl⟩
abbrev main_v190 : Ref sig .tc := ⟨.hbm, 292, rfl⟩
abbrev main_v191 : Ref sig .tc := ⟨.hbm, 293, rfl⟩
abbrev main_v192 : Ref sig .tc := ⟨.hbm, 294, rfl⟩
abbrev main_v193 : Ref sig .tc := ⟨.hbm, 295, rfl⟩
abbrev main_v194 : Ref sig .tc := ⟨.hbm, 296, rfl⟩
abbrev main_v195 : Ref sig .tc := ⟨.hbm, 297, rfl⟩
abbrev main_v196 : Ref sig .tc := ⟨.hbm, 298, rfl⟩
abbrev main_cst_55 : Ref sig .tc := ⟨.hbm, 299, rfl⟩
abbrev main_call8_cst : Ref sig .tc := ⟨.hbm, 300, rfl⟩
abbrev main_call8_v0 : Ref sig .tc := ⟨.hbm, 301, rfl⟩
abbrev main_call8_v1 : Ref sig .tc := ⟨.hbm, 302, rfl⟩
abbrev main_call8_v2 : Ref sig .tc := ⟨.hbm, 303, rfl⟩
abbrev main_call8_v3 : Ref sig .tc := ⟨.hbm, 304, rfl⟩
abbrev main_call8_v4 : Ref sig .tc := ⟨.hbm, 305, rfl⟩
abbrev main_v197 : Ref sig .tc := ⟨.hbm, 306, rfl⟩
abbrev main_v198 : Ref sig .tc := ⟨.hbm, 307, rfl⟩
abbrev main_v199 : Ref sig .tc := ⟨.hbm, 308, rfl⟩
abbrev main_v200 : Ref sig .tc := ⟨.hbm, 309, rfl⟩
abbrev main_v201 : Ref sig .tc := ⟨.hbm, 310, rfl⟩
abbrev main_cst_56 : Ref sig .tc := ⟨.hbm, 311, rfl⟩
abbrev main_v202 : Ref sig .tc := ⟨.hbm, 312, rfl⟩
abbrev main_v203 : Ref sig .tc := ⟨.hbm, 313, rfl⟩
abbrev main_cst_57 : Ref sig .tc := ⟨.hbm, 314, rfl⟩
abbrev main_v204 : Ref sig .tc := ⟨.hbm, 315, rfl⟩
abbrev main_c_58 : Ref sig .tc := ⟨.hbm, 316, rfl⟩
abbrev main_v205 : Ref sig .tc := ⟨.hbm, 317, rfl⟩
abbrev main_v206 : Ref sig .tc := ⟨.hbm, 318, rfl⟩
abbrev main_c_59 : Ref sig .tc := ⟨.hbm, 319, rfl⟩
abbrev main_v207 : Ref sig .tc := ⟨.hbm, 320, rfl⟩
abbrev main_v208 : Ref sig .tc := ⟨.hbm, 321, rfl⟩
abbrev main_v209 : Ref sig .tc := ⟨.hbm, 322, rfl⟩
abbrev main_v210 : Ref sig .tc := ⟨.hbm, 323, rfl⟩
abbrev main_v211 : Ref sig .tc := ⟨.hbm, 324, rfl⟩
abbrev main_cst_60 : Ref sig .tc := ⟨.hbm, 325, rfl⟩
abbrev main_v212 : Ref sig .tc := ⟨.hbm, 326, rfl⟩
abbrev main_v213 : Ref sig .tc := ⟨.hbm, 327, rfl⟩
abbrev main_cst_61 : Ref sig .tc := ⟨.hbm, 328, rfl⟩
abbrev main_v214 : Ref sig .tc := ⟨.hbm, 329, rfl⟩
abbrev main_v215 : Ref sig .tc := ⟨.hbm, 330, rfl⟩
abbrev main_cst_62 : Ref sig .tc := ⟨.hbm, 331, rfl⟩
abbrev main_call9_v0 : Ref sig .tc := ⟨.hbm, 332, rfl⟩
abbrev main_call9_v1 : Ref sig .tc := ⟨.hbm, 333, rfl⟩
abbrev main_v216 : Ref sig .tc := ⟨.hbm, 334, rfl⟩
abbrev main_v217 : Ref sig .tc := ⟨.hbm, 335, rfl⟩
abbrev main_cst_63 : Ref sig .tc := ⟨.hbm, 336, rfl⟩
abbrev main_call10_v0 : Ref sig .tc := ⟨.hbm, 337, rfl⟩
abbrev main_call10_v1 : Ref sig .tc := ⟨.hbm, 338, rfl⟩
abbrev main_v218 : Ref sig .tc := ⟨.hbm, 339, rfl⟩
abbrev main_c_64 : Ref sig .tc := ⟨.hbm, 340, rfl⟩
abbrev main_v219 : Ref sig .tc := ⟨.hbm, 341, rfl⟩
abbrev main_v220 : Ref sig .tc := ⟨.hbm, 342, rfl⟩
abbrev main_c_65 : Ref sig .tc := ⟨.hbm, 343, rfl⟩
abbrev main_v221 : Ref sig .tc := ⟨.hbm, 344, rfl⟩
abbrev main_v222 : Ref sig .tc := ⟨.hbm, 345, rfl⟩
abbrev main_v223 : Ref sig .tc := ⟨.hbm, 346, rfl⟩
abbrev main_v224 : Ref sig .tc := ⟨.hbm, 347, rfl⟩
abbrev main_v225 : Ref sig .tc := ⟨.hbm, 348, rfl⟩
abbrev main_v226 : Ref sig .tc := ⟨.hbm, 349, rfl⟩
abbrev main_c_66 : Ref sig .tc := ⟨.hbm, 350, rfl⟩
abbrev main_v227 : Ref sig .tc := ⟨.hbm, 351, rfl⟩
abbrev main_v228 : Ref sig .tc := ⟨.hbm, 352, rfl⟩
abbrev main_c_67 : Ref sig .tc := ⟨.hbm, 353, rfl⟩
abbrev main_v229 : Ref sig .tc := ⟨.hbm, 354, rfl⟩
abbrev main_v230 : Ref sig .tc := ⟨.hbm, 355, rfl⟩
abbrev main_v231 : Ref sig .tc := ⟨.hbm, 356, rfl⟩
abbrev main_v232 : Ref sig .tc := ⟨.hbm, 357, rfl⟩
abbrev main_v233 : Ref sig .tc := ⟨.hbm, 358, rfl⟩
abbrev main_v234 : Ref sig .tc := ⟨.hbm, 359, rfl⟩
abbrev main_cst_68 : Ref sig .tc := ⟨.hbm, 360, rfl⟩
abbrev main_v235 : Ref sig .tc := ⟨.hbm, 361, rfl⟩
abbrev main_c_69 : Ref sig .tc := ⟨.hbm, 362, rfl⟩
abbrev main_v236 : Ref sig .tc := ⟨.hbm, 363, rfl⟩
abbrev main_v237 : Ref sig .tc := ⟨.hbm, 364, rfl⟩
abbrev main_c_70 : Ref sig .tc := ⟨.hbm, 365, rfl⟩
abbrev main_v238 : Ref sig .tc := ⟨.hbm, 366, rfl⟩
abbrev main_v239 : Ref sig .tc := ⟨.hbm, 367, rfl⟩
abbrev main_v240 : Ref sig .tc := ⟨.hbm, 368, rfl⟩
abbrev main_v241 : Ref sig .tc := ⟨.hbm, 369, rfl⟩
abbrev main_v242 : Ref sig .tc := ⟨.hbm, 370, rfl⟩
abbrev main_v243 : Ref sig .tc := ⟨.hbm, 371, rfl⟩
abbrev main_v244 : Ref sig .tc := ⟨.hbm, 372, rfl⟩
abbrev main_v245 : Ref sig .tc := ⟨.hbm, 373, rfl⟩
abbrev main_c_71 : Ref sig .tc := ⟨.hbm, 374, rfl⟩
abbrev main_v246 : Ref sig .tc := ⟨.hbm, 375, rfl⟩
abbrev main_v247 : Ref sig .tc := ⟨.hbm, 376, rfl⟩
abbrev main_c_72 : Ref sig .tc := ⟨.hbm, 377, rfl⟩
abbrev main_v248 : Ref sig .tc := ⟨.hbm, 378, rfl⟩
abbrev main_v249 : Ref sig .tc := ⟨.hbm, 379, rfl⟩
abbrev main_v250 : Ref sig .tc := ⟨.hbm, 380, rfl⟩
abbrev main_v251 : Ref sig .tc := ⟨.hbm, 381, rfl⟩
abbrev main_v252 : Ref sig .tc := ⟨.hbm, 382, rfl⟩
abbrev main_v253 : Ref sig .tc := ⟨.hbm, 383, rfl⟩
abbrev main_v254 : Ref sig .tc := ⟨.hbm, 384, rfl⟩
abbrev main_v255 : Ref sig .tc := ⟨.hbm, 385, rfl⟩
abbrev main_cst_73 : Ref sig .tc := ⟨.hbm, 386, rfl⟩
abbrev main_call11_cst : Ref sig .tc := ⟨.hbm, 387, rfl⟩
abbrev main_call11_v0 : Ref sig .tc := ⟨.hbm, 388, rfl⟩
abbrev main_call11_v1 : Ref sig .tc := ⟨.hbm, 389, rfl⟩
abbrev main_call11_v2 : Ref sig .tc := ⟨.hbm, 390, rfl⟩
abbrev main_call11_v3 : Ref sig .tc := ⟨.hbm, 391, rfl⟩
abbrev main_call11_v4 : Ref sig .tc := ⟨.hbm, 392, rfl⟩
abbrev main_v256 : Ref sig .tc := ⟨.hbm, 393, rfl⟩
abbrev main_v257 : Ref sig .tc := ⟨.hbm, 394, rfl⟩
abbrev main_v258 : Ref sig .tc := ⟨.hbm, 395, rfl⟩
abbrev main_v259 : Ref sig .tc := ⟨.hbm, 396, rfl⟩
abbrev main_v260 : Ref sig .tc := ⟨.hbm, 397, rfl⟩
abbrev main_v261 : Ref sig .tc := ⟨.hbm, 398, rfl⟩
abbrev main_v262 : Ref sig .tc := ⟨.hbm, 399, rfl⟩
abbrev main_v263 : Ref sig .tc := ⟨.hbm, 400, rfl⟩
abbrev main_cst_74 : Ref sig .tc := ⟨.hbm, 401, rfl⟩
abbrev main_v264 : Ref sig .tc := ⟨.hbm, 402, rfl⟩
abbrev main_v265 : Ref sig .tc := ⟨.hbm, 403, rfl⟩
abbrev main_cst_75 : Ref sig .tc := ⟨.hbm, 404, rfl⟩
abbrev main_v266 : Ref sig .tc := ⟨.hbm, 405, rfl⟩
abbrev main_c_76 : Ref sig .tc := ⟨.hbm, 406, rfl⟩
abbrev main_v267 : Ref sig .tc := ⟨.hbm, 407, rfl⟩
abbrev main_v268 : Ref sig .tc := ⟨.hbm, 408, rfl⟩
abbrev main_c_77 : Ref sig .tc := ⟨.hbm, 409, rfl⟩
abbrev main_v269 : Ref sig .tc := ⟨.hbm, 410, rfl⟩
abbrev main_v270 : Ref sig .tc := ⟨.hbm, 411, rfl⟩
abbrev main_v271 : Ref sig .tc := ⟨.hbm, 412, rfl⟩
abbrev main_v272 : Ref sig .tc := ⟨.hbm, 413, rfl⟩
abbrev main_v273 : Ref sig .tc := ⟨.hbm, 414, rfl⟩
abbrev main_cst_78 : Ref sig .tc := ⟨.hbm, 415, rfl⟩
abbrev main_v274 : Ref sig .tc := ⟨.hbm, 416, rfl⟩
abbrev main_v275 : Ref sig .tc := ⟨.hbm, 417, rfl⟩
abbrev main_cst_79 : Ref sig .tc := ⟨.hbm, 418, rfl⟩
abbrev main_v276 : Ref sig .tc := ⟨.hbm, 419, rfl⟩
abbrev main_v277 : Ref sig .tc := ⟨.hbm, 420, rfl⟩
abbrev main_cst_80 : Ref sig .tc := ⟨.hbm, 421, rfl⟩
abbrev main_call12_v0 : Ref sig .tc := ⟨.hbm, 422, rfl⟩
abbrev main_call12_v1 : Ref sig .tc := ⟨.hbm, 423, rfl⟩
abbrev main_v278 : Ref sig .tc := ⟨.hbm, 424, rfl⟩
abbrev main_v279 : Ref sig .tc := ⟨.hbm, 425, rfl⟩
abbrev main_cst_81 : Ref sig .tc := ⟨.hbm, 426, rfl⟩
abbrev main_call13_v0 : Ref sig .tc := ⟨.hbm, 427, rfl⟩
abbrev main_call13_v1 : Ref sig .tc := ⟨.hbm, 428, rfl⟩
abbrev main_v280 : Ref sig .tc := ⟨.hbm, 429, rfl⟩
abbrev main_c_82 : Ref sig .tc := ⟨.hbm, 430, rfl⟩
abbrev main_v281 : Ref sig .tc := ⟨.hbm, 431, rfl⟩
abbrev main_v282 : Ref sig .tc := ⟨.hbm, 432, rfl⟩
abbrev main_c_83 : Ref sig .tc := ⟨.hbm, 433, rfl⟩
abbrev main_v283 : Ref sig .tc := ⟨.hbm, 434, rfl⟩
abbrev main_v284 : Ref sig .tc := ⟨.hbm, 435, rfl⟩
abbrev main_v285 : Ref sig .tc := ⟨.hbm, 436, rfl⟩
abbrev main_v286 : Ref sig .tc := ⟨.hbm, 437, rfl⟩
abbrev main_v287 : Ref sig .tc := ⟨.hbm, 438, rfl⟩
abbrev main_v288 : Ref sig .tc := ⟨.hbm, 439, rfl⟩
abbrev main_c_84 : Ref sig .tc := ⟨.hbm, 440, rfl⟩
abbrev main_v289 : Ref sig .tc := ⟨.hbm, 441, rfl⟩
abbrev main_v290 : Ref sig .tc := ⟨.hbm, 442, rfl⟩
abbrev main_c_85 : Ref sig .tc := ⟨.hbm, 443, rfl⟩
abbrev main_v291 : Ref sig .tc := ⟨.hbm, 444, rfl⟩
abbrev main_v292 : Ref sig .tc := ⟨.hbm, 445, rfl⟩
abbrev main_v293 : Ref sig .tc := ⟨.hbm, 446, rfl⟩
abbrev main_v294 : Ref sig .tc := ⟨.hbm, 447, rfl⟩
abbrev main_v295 : Ref sig .tc := ⟨.hbm, 448, rfl⟩
abbrev main_v296 : Ref sig .tc := ⟨.hbm, 449, rfl⟩
abbrev main_cst_86 : Ref sig .tc := ⟨.hbm, 450, rfl⟩
abbrev main_v297 : Ref sig .tc := ⟨.hbm, 451, rfl⟩
abbrev main_c_87 : Ref sig .tc := ⟨.hbm, 452, rfl⟩
abbrev main_v298 : Ref sig .tc := ⟨.hbm, 453, rfl⟩
abbrev main_v299 : Ref sig .tc := ⟨.hbm, 454, rfl⟩
abbrev main_c_88 : Ref sig .tc := ⟨.hbm, 455, rfl⟩
abbrev main_v300 : Ref sig .tc := ⟨.hbm, 456, rfl⟩
abbrev main_v301 : Ref sig .tc := ⟨.hbm, 457, rfl⟩
abbrev main_v302 : Ref sig .tc := ⟨.hbm, 458, rfl⟩
abbrev main_v303 : Ref sig .tc := ⟨.hbm, 459, rfl⟩
abbrev main_v304 : Ref sig .tc := ⟨.hbm, 460, rfl⟩
abbrev main_v305 : Ref sig .tc := ⟨.hbm, 461, rfl⟩
abbrev main_v306 : Ref sig .tc := ⟨.hbm, 462, rfl⟩
abbrev main_v307 : Ref sig .tc := ⟨.hbm, 463, rfl⟩
abbrev main_c_89 : Ref sig .tc := ⟨.hbm, 464, rfl⟩
abbrev main_v308 : Ref sig .tc := ⟨.hbm, 465, rfl⟩
abbrev main_v309 : Ref sig .tc := ⟨.hbm, 466, rfl⟩
abbrev main_c_90 : Ref sig .tc := ⟨.hbm, 467, rfl⟩
abbrev main_v310 : Ref sig .tc := ⟨.hbm, 468, rfl⟩
abbrev main_v311 : Ref sig .tc := ⟨.hbm, 469, rfl⟩
abbrev main_v312 : Ref sig .tc := ⟨.hbm, 470, rfl⟩
abbrev main_v313 : Ref sig .tc := ⟨.hbm, 471, rfl⟩
abbrev main_v314 : Ref sig .tc := ⟨.hbm, 472, rfl⟩
abbrev main_v315 : Ref sig .tc := ⟨.hbm, 473, rfl⟩
abbrev main_v316 : Ref sig .tc := ⟨.hbm, 474, rfl⟩
abbrev main_v317 : Ref sig .tc := ⟨.hbm, 475, rfl⟩
abbrev main_cst_91 : Ref sig .tc := ⟨.hbm, 476, rfl⟩
abbrev main_call14_cst : Ref sig .tc := ⟨.hbm, 477, rfl⟩
abbrev main_call14_v0 : Ref sig .tc := ⟨.hbm, 478, rfl⟩
abbrev main_call14_v1 : Ref sig .tc := ⟨.hbm, 479, rfl⟩
abbrev main_call14_v2 : Ref sig .tc := ⟨.hbm, 480, rfl⟩
abbrev main_call14_v3 : Ref sig .tc := ⟨.hbm, 481, rfl⟩
abbrev main_call14_v4 : Ref sig .tc := ⟨.hbm, 482, rfl⟩
abbrev main_v318 : Ref sig .tc := ⟨.hbm, 483, rfl⟩
abbrev main_cst_92 : Ref sig .tc := ⟨.hbm, 484, rfl⟩
abbrev main_v319 : Ref sig .tc := ⟨.hbm, 485, rfl⟩
abbrev main_c_93 : Ref sig .tc := ⟨.hbm, 486, rfl⟩
abbrev main_v320 : Ref sig .tc := ⟨.hbm, 487, rfl⟩
abbrev main_v321 : Ref sig .tc := ⟨.hbm, 488, rfl⟩
abbrev main_c_94 : Ref sig .tc := ⟨.hbm, 489, rfl⟩
abbrev main_v322 : Ref sig .tc := ⟨.hbm, 490, rfl⟩
abbrev main_v323 : Ref sig .tc := ⟨.hbm, 491, rfl⟩
abbrev main_v324 : Ref sig .tc := ⟨.hbm, 492, rfl⟩
abbrev main_v325 : Ref sig .tc := ⟨.hbm, 493, rfl⟩
abbrev main_v326 : Ref sig .tc := ⟨.hbm, 494, rfl⟩
abbrev main_c_95 : Ref sig .tc := ⟨.hbm, 495, rfl⟩
abbrev main_v327 : Ref sig .tc := ⟨.hbm, 496, rfl⟩
abbrev main_v328 : Ref sig .tc := ⟨.hbm, 497, rfl⟩
abbrev main_c_96 : Ref sig .tc := ⟨.hbm, 498, rfl⟩
abbrev main_v329 : Ref sig .tc := ⟨.hbm, 499, rfl⟩
abbrev main_v330 : Ref sig .tc := ⟨.hbm, 500, rfl⟩
abbrev main_v331 : Ref sig .tc := ⟨.hbm, 501, rfl⟩
abbrev main_v332 : Ref sig .tc := ⟨.hbm, 502, rfl⟩
abbrev main_v333 : Ref sig .tc := ⟨.hbm, 503, rfl⟩
abbrev main_v334 : Ref sig .tc := ⟨.hbm, 504, rfl⟩
abbrev main_v335 : Ref sig .tc := ⟨.hbm, 505, rfl⟩
abbrev main_v336 : Ref sig .tc := ⟨.hbm, 506, rfl⟩
abbrev main_v337 : Ref sig .tc := ⟨.hbm, 507, rfl⟩
abbrev main_v338 : Ref sig .tc := ⟨.hbm, 508, rfl⟩
abbrev main_v339 : Ref sig .tc := ⟨.hbm, 509, rfl⟩
abbrev main_v340 : Ref sig .tc := ⟨.hbm, 510, rfl⟩
abbrev main_v341 : Ref sig .tc := ⟨.hbm, 511, rfl⟩
abbrev main_values : Ref sig .tc := ⟨.hbm, 512, rfl⟩
abbrev main_indices : Ref sig .tc := ⟨.hbm, 513, rfl⟩
abbrev main_c_97 : Ref sig .tc := ⟨.hbm, 514, rfl⟩
abbrev main_v342 : Ref sig .tc := ⟨.hbm, 515, rfl⟩
abbrev main_v343 : Ref sig .tc := ⟨.hbm, 516, rfl⟩
abbrev main_c_98 : Ref sig .tc := ⟨.hbm, 517, rfl⟩
abbrev main_v344 : Ref sig .tc := ⟨.hbm, 518, rfl⟩
abbrev main_v345 : Ref sig .tc := ⟨.hbm, 519, rfl⟩
abbrev main_v346 : Ref sig .tc := ⟨.hbm, 520, rfl⟩
abbrev main_v347 : Ref sig .tc := ⟨.hbm, 521, rfl⟩
abbrev main_v348 : Ref sig .tc := ⟨.hbm, 522, rfl⟩
abbrev main_v349 : Ref sig .tc := ⟨.hbm, 523, rfl⟩
abbrev main_v350 : Ref sig .tc := ⟨.hbm, 524, rfl⟩
abbrev main_v351 : Ref sig .tc := ⟨.hbm, 525, rfl⟩
abbrev main_c_99 : Ref sig .tc := ⟨.hbm, 526, rfl⟩
abbrev main_v352 : Ref sig .tc := ⟨.hbm, 527, rfl⟩
abbrev main_c_100 : Ref sig .tc := ⟨.hbm, 528, rfl⟩
abbrev main_v353 : Ref sig .tc := ⟨.hbm, 529, rfl⟩
abbrev main_v354 : Ref sig .tc := ⟨.hbm, 530, rfl⟩
abbrev main_c_101 : Ref sig .tc := ⟨.hbm, 531, rfl⟩
abbrev main_v355 : Ref sig .tc := ⟨.hbm, 532, rfl⟩
abbrev main_v356 : Ref sig .tc := ⟨.hbm, 533, rfl⟩
abbrev main_v357 : Ref sig .tc := ⟨.hbm, 534, rfl⟩
abbrev main_v358 : Ref sig .tc := ⟨.hbm, 535, rfl⟩
abbrev main_c_102 : Ref sig .tc := ⟨.hbm, 536, rfl⟩
abbrev main_v359 : Ref sig .tc := ⟨.hbm, 537, rfl⟩
abbrev main_v360 : Ref sig .tc := ⟨.hbm, 538, rfl⟩
abbrev main_c_103 : Ref sig .tc := ⟨.hbm, 539, rfl⟩
abbrev main_v361 : Ref sig .tc := ⟨.hbm, 540, rfl⟩
abbrev main_v362 : Ref sig .tc := ⟨.hbm, 541, rfl⟩
abbrev main_c_104 : Ref sig .tc := ⟨.hbm, 542, rfl⟩
abbrev main_v363 : Ref sig .tc := ⟨.hbm, 543, rfl⟩
abbrev main_v364 : Ref sig .tc := ⟨.hbm, 544, rfl⟩
abbrev main_c_105 : Ref sig .tc := ⟨.hbm, 545, rfl⟩
abbrev main_v365 : Ref sig .tc := ⟨.hbm, 546, rfl⟩
abbrev main_v366 : Ref sig .tc := ⟨.hbm, 547, rfl⟩
abbrev main_v367 : Ref sig .tc := ⟨.hbm, 548, rfl⟩
abbrev main_v368 : Ref sig .tc := ⟨.hbm, 549, rfl⟩
abbrev main_v369 : Ref sig .tc := ⟨.hbm, 550, rfl⟩
abbrev main_c_106 : Ref sig .tc := ⟨.hbm, 551, rfl⟩
abbrev main_v370 : Ref sig .tc := ⟨.hbm, 552, rfl⟩
abbrev main_v371 : Ref sig .tc := ⟨.hbm, 553, rfl⟩
abbrev main_c_107 : Ref sig .tc := ⟨.hbm, 554, rfl⟩
abbrev main_v372 : Ref sig .tc := ⟨.hbm, 555, rfl⟩
abbrev main_v373 : Ref sig .tc := ⟨.hbm, 556, rfl⟩
abbrev main_v374 : Ref sig .tc := ⟨.hbm, 557, rfl⟩
abbrev main_v375 : Ref sig .tc := ⟨.hbm, 558, rfl⟩
abbrev main_v376 : Ref sig .tc := ⟨.hbm, 559, rfl⟩
abbrev main_c_108 : Ref sig .tc := ⟨.hbm, 560, rfl⟩
abbrev main_v377 : Ref sig .tc := ⟨.hbm, 561, rfl⟩
abbrev main_v378 : Ref sig .tc := ⟨.hbm, 562, rfl⟩
abbrev main_c_109 : Ref sig .tc := ⟨.hbm, 563, rfl⟩
abbrev main_v379 : Ref sig .tc := ⟨.hbm, 564, rfl⟩
abbrev main_v380 : Ref sig .tc := ⟨.hbm, 565, rfl⟩
abbrev main_v381 : Ref sig .tc := ⟨.hbm, 566, rfl⟩
abbrev main_v382 : Ref sig .tc := ⟨.hbm, 567, rfl⟩
abbrev main_v383 : Ref sig .tc := ⟨.hbm, 568, rfl⟩
abbrev main_v384 : Ref sig .tc := ⟨.hbm, 569, rfl⟩
abbrev main_v385 : Ref sig .tc := ⟨.hbm, 570, rfl⟩
abbrev main_c_110 : Ref sig .tc := ⟨.hbm, 571, rfl⟩
abbrev main_v386 : Ref sig .tc := ⟨.hbm, 572, rfl⟩
abbrev main_v387 : Ref sig .tc := ⟨.hbm, 573, rfl⟩
abbrev main_c_111 : Ref sig .tc := ⟨.hbm, 574, rfl⟩
abbrev main_v388 : Ref sig .tc := ⟨.hbm, 575, rfl⟩
abbrev main_v389 : Ref sig .tc := ⟨.hbm, 576, rfl⟩
abbrev main_v390 : Ref sig .tc := ⟨.hbm, 577, rfl⟩
abbrev main_v391 : Ref sig .tc := ⟨.hbm, 578, rfl⟩
abbrev main_v392 : Ref sig .tc := ⟨.hbm, 579, rfl⟩
abbrev main_c_112 : Ref sig .tc := ⟨.hbm, 580, rfl⟩
abbrev main_v393 : Ref sig .tc := ⟨.hbm, 581, rfl⟩
abbrev main_v394 : Ref sig .tc := ⟨.hbm, 582, rfl⟩
abbrev main_c_113 : Ref sig .tc := ⟨.hbm, 583, rfl⟩
abbrev main_v395 : Ref sig .tc := ⟨.hbm, 584, rfl⟩
abbrev main_v396 : Ref sig .tc := ⟨.hbm, 585, rfl⟩
abbrev main_v397 : Ref sig .tc := ⟨.hbm, 586, rfl⟩
abbrev main_v398 : Ref sig .tc := ⟨.hbm, 587, rfl⟩
abbrev main_v399 : Ref sig .tc := ⟨.hbm, 588, rfl⟩
abbrev main_cst_114 : Ref sig .tc := ⟨.hbm, 589, rfl⟩
abbrev main_v400 : Ref sig .tc := ⟨.hbm, 590, rfl⟩
abbrev main_c_115 : Ref sig .tc := ⟨.hbm, 591, rfl⟩
abbrev main_v401 : Ref sig .tc := ⟨.hbm, 592, rfl⟩
abbrev main_v402 : Ref sig .tc := ⟨.hbm, 593, rfl⟩
abbrev main_c_116 : Ref sig .tc := ⟨.hbm, 594, rfl⟩
abbrev main_v403 : Ref sig .tc := ⟨.hbm, 595, rfl⟩
abbrev main_v404 : Ref sig .tc := ⟨.hbm, 596, rfl⟩
abbrev main_v405 : Ref sig .tc := ⟨.hbm, 597, rfl⟩
abbrev main_v406 : Ref sig .tc := ⟨.hbm, 598, rfl⟩
abbrev main_v407 : Ref sig .tc := ⟨.hbm, 599, rfl⟩
abbrev main_cst_117 : Ref sig .tc := ⟨.hbm, 600, rfl⟩
abbrev main_v408 : Ref sig .tc := ⟨.hbm, 601, rfl⟩
abbrev main_v409 : Ref sig .tc := ⟨.hbm, 602, rfl⟩
abbrev main_cst_118 : Ref sig .tc := ⟨.hbm, 603, rfl⟩
abbrev main_v410 : Ref sig .tc := ⟨.hbm, 604, rfl⟩
abbrev main_v411 : Ref sig .tc := ⟨.hbm, 605, rfl⟩
abbrev main_cst_119 : Ref sig .tc := ⟨.hbm, 606, rfl⟩
abbrev main_call15_v0 : Ref sig .tc := ⟨.hbm, 607, rfl⟩
abbrev main_call15_v1 : Ref sig .tc := ⟨.hbm, 608, rfl⟩
abbrev main_v412 : Ref sig .tc := ⟨.hbm, 609, rfl⟩
abbrev main_v413 : Ref sig .tc := ⟨.hbm, 610, rfl⟩
abbrev main_cst_120 : Ref sig .tc := ⟨.hbm, 611, rfl⟩
abbrev main_call16_v0 : Ref sig .tc := ⟨.hbm, 612, rfl⟩
abbrev main_call16_v1 : Ref sig .tc := ⟨.hbm, 613, rfl⟩
abbrev main_v414 : Ref sig .tc := ⟨.hbm, 614, rfl⟩
abbrev main_c_121 : Ref sig .tc := ⟨.hbm, 615, rfl⟩
abbrev main_v415 : Ref sig .tc := ⟨.hbm, 616, rfl⟩
abbrev main_v416 : Ref sig .tc := ⟨.hbm, 617, rfl⟩
abbrev main_c_122 : Ref sig .tc := ⟨.hbm, 618, rfl⟩
abbrev main_v417 : Ref sig .tc := ⟨.hbm, 619, rfl⟩
abbrev main_v418 : Ref sig .tc := ⟨.hbm, 620, rfl⟩
abbrev main_v419 : Ref sig .tc := ⟨.hbm, 621, rfl⟩
abbrev main_v420 : Ref sig .tc := ⟨.hbm, 622, rfl⟩
abbrev main_v421 : Ref sig .tc := ⟨.hbm, 623, rfl⟩
abbrev main_v422 : Ref sig .tc := ⟨.hbm, 624, rfl⟩
abbrev main_v423 : Ref sig .tc := ⟨.hbm, 625, rfl⟩
abbrev main_c_123 : Ref sig .tc := ⟨.hbm, 626, rfl⟩
abbrev main_v424 : Ref sig .tc := ⟨.hbm, 627, rfl⟩
abbrev main_v425 : Ref sig .tc := ⟨.hbm, 628, rfl⟩
abbrev main_c_124 : Ref sig .tc := ⟨.hbm, 629, rfl⟩
abbrev main_v426 : Ref sig .tc := ⟨.hbm, 630, rfl⟩
abbrev main_v427 : Ref sig .tc := ⟨.hbm, 631, rfl⟩
abbrev main_v428 : Ref sig .tc := ⟨.hbm, 632, rfl⟩
abbrev main_v429 : Ref sig .tc := ⟨.hbm, 633, rfl⟩
abbrev main_v430 : Ref sig .tc := ⟨.hbm, 634, rfl⟩
abbrev main_v431 : Ref sig .tc := ⟨.hbm, 635, rfl⟩
abbrev main_cst_125 : Ref sig .tc := ⟨.hbm, 636, rfl⟩
abbrev main_v432 : Ref sig .tc := ⟨.hbm, 637, rfl⟩
abbrev main_c_126 : Ref sig .tc := ⟨.hbm, 638, rfl⟩
abbrev main_v433 : Ref sig .tc := ⟨.hbm, 639, rfl⟩
abbrev main_v434 : Ref sig .tc := ⟨.hbm, 640, rfl⟩
abbrev main_c_127 : Ref sig .tc := ⟨.hbm, 641, rfl⟩
abbrev main_v435 : Ref sig .tc := ⟨.hbm, 642, rfl⟩
abbrev main_v436 : Ref sig .tc := ⟨.hbm, 643, rfl⟩
abbrev main_v437 : Ref sig .tc := ⟨.hbm, 644, rfl⟩
abbrev main_v438 : Ref sig .tc := ⟨.hbm, 645, rfl⟩
abbrev main_v439 : Ref sig .tc := ⟨.hbm, 646, rfl⟩
abbrev main_v440 : Ref sig .tc := ⟨.hbm, 647, rfl⟩
abbrev main_v441 : Ref sig .tc := ⟨.hbm, 648, rfl⟩
abbrev main_v442 : Ref sig .tc := ⟨.hbm, 649, rfl⟩
abbrev main_c_128 : Ref sig .tc := ⟨.hbm, 650, rfl⟩
abbrev main_v443 : Ref sig .tc := ⟨.hbm, 651, rfl⟩
abbrev main_v444 : Ref sig .tc := ⟨.hbm, 652, rfl⟩
abbrev main_c_129 : Ref sig .tc := ⟨.hbm, 653, rfl⟩
abbrev main_v445 : Ref sig .tc := ⟨.hbm, 654, rfl⟩
abbrev main_v446 : Ref sig .tc := ⟨.hbm, 655, rfl⟩
abbrev main_v447 : Ref sig .tc := ⟨.hbm, 656, rfl⟩
abbrev main_v448 : Ref sig .tc := ⟨.hbm, 657, rfl⟩
abbrev main_v449 : Ref sig .tc := ⟨.hbm, 658, rfl⟩
abbrev main_cst_130 : Ref sig .tc := ⟨.hbm, 659, rfl⟩
abbrev main_v450 : Ref sig .tc := ⟨.hbm, 660, rfl⟩
abbrev main_c_131 : Ref sig .tc := ⟨.hbm, 661, rfl⟩
abbrev main_v451 : Ref sig .tc := ⟨.hbm, 662, rfl⟩
abbrev main_v452 : Ref sig .tc := ⟨.hbm, 663, rfl⟩
abbrev main_c_132 : Ref sig .tc := ⟨.hbm, 664, rfl⟩
abbrev main_v453 : Ref sig .tc := ⟨.hbm, 665, rfl⟩
abbrev main_v454 : Ref sig .tc := ⟨.hbm, 666, rfl⟩
abbrev main_v455 : Ref sig .tc := ⟨.hbm, 667, rfl⟩
abbrev main_v456 : Ref sig .tc := ⟨.hbm, 668, rfl⟩
abbrev main_v457 : Ref sig .tc := ⟨.hbm, 669, rfl⟩
abbrev main_v458 : Ref sig .tc := ⟨.hbm, 670, rfl⟩
abbrev main_v459 : Ref sig .tc := ⟨.hbm, 671, rfl⟩
abbrev main_v460 : Ref sig .tc := ⟨.hbm, 672, rfl⟩
abbrev main_c_133 : Ref sig .tc := ⟨.hbm, 673, rfl⟩
abbrev main_v461 : Ref sig .tc := ⟨.hbm, 674, rfl⟩
abbrev main_v462 : Ref sig .tc := ⟨.hbm, 675, rfl⟩
abbrev main_c_134 : Ref sig .tc := ⟨.hbm, 676, rfl⟩
abbrev main_v463 : Ref sig .tc := ⟨.hbm, 677, rfl⟩
abbrev main_v464 : Ref sig .tc := ⟨.hbm, 678, rfl⟩
abbrev main_v465 : Ref sig .tc := ⟨.hbm, 679, rfl⟩
abbrev main_v466 : Ref sig .tc := ⟨.hbm, 680, rfl⟩
abbrev main_v467 : Ref sig .tc := ⟨.hbm, 681, rfl⟩
abbrev main_cst_135 : Ref sig .tc := ⟨.hbm, 682, rfl⟩
abbrev main_v468 : Ref sig .tc := ⟨.hbm, 683, rfl⟩
abbrev main_v469 : Ref sig .tc := ⟨.hbm, 684, rfl⟩
abbrev main_v470 : Ref sig .tc := ⟨.hbm, 685, rfl⟩
abbrev main_v471 : Ref sig .tc := ⟨.hbm, 686, rfl⟩
abbrev main_v472 : Ref sig .tc := ⟨.hbm, 687, rfl⟩
abbrev main_v473 : Ref sig .tc := ⟨.hbm, 688, rfl⟩
abbrev main_v474 : Ref sig .tc := ⟨.hbm, 689, rfl⟩
abbrev main_v475 : Ref sig .tc := ⟨.hbm, 690, rfl⟩
abbrev main_v476 : Ref sig .tc := ⟨.hbm, 691, rfl⟩
abbrev main_v477 : Ref sig .tc := ⟨.hbm, 692, rfl⟩
abbrev main_v478 : Ref sig .tc := ⟨.hbm, 693, rfl⟩
abbrev main_cst_136 : Ref sig .tc := ⟨.hbm, 694, rfl⟩
abbrev main_v479 : Ref sig .tc := ⟨.hbm, 695, rfl⟩
abbrev main_cst_137 : Ref sig .tc := ⟨.hbm, 696, rfl⟩
abbrev main_v480 : Ref sig .tc := ⟨.hbm, 697, rfl⟩
abbrev main_v481 : Ref sig .tc := ⟨.hbm, 698, rfl⟩
abbrev main_v482 : Ref sig .tc := ⟨.hbm, 699, rfl⟩
abbrev main_v483 : Ref sig .tc := ⟨.hbm, 700, rfl⟩
abbrev main_v484 : Ref sig .tc := ⟨.hbm, 701, rfl⟩
abbrev main_v485 : Ref sig .tc := ⟨.hbm, 702, rfl⟩
abbrev main_cst_138 : Ref sig .tc := ⟨.hbm, 703, rfl⟩
abbrev main_v486 : Ref sig .tc := ⟨.hbm, 704, rfl⟩
abbrev main_v487 : Ref sig .tc := ⟨.hbm, 705, rfl⟩
abbrev main_v488 : Ref sig .tc := ⟨.hbm, 706, rfl⟩
abbrev main_v489 : Ref sig .tc := ⟨.hbm, 707, rfl⟩
abbrev main_cst_139 : Ref sig .tc := ⟨.hbm, 708, rfl⟩
abbrev main_v490 : Ref sig .tc := ⟨.hbm, 709, rfl⟩
abbrev main_cst_140 : Ref sig .tc := ⟨.hbm, 710, rfl⟩
abbrev main_v491 : Ref sig .tc := ⟨.hbm, 711, rfl⟩
abbrev main_v492 : Ref sig .tc := ⟨.hbm, 712, rfl⟩
abbrev main_v493 : Ref sig .tc := ⟨.hbm, 713, rfl⟩
abbrev main_v494 : Ref sig .tc := ⟨.hbm, 714, rfl⟩
abbrev main_v495 : Ref sig .tc := ⟨.hbm, 715, rfl⟩
abbrev main_v496 : Ref sig .tc := ⟨.hbm, 716, rfl⟩
abbrev main_cst_141 : Ref sig .tc := ⟨.hbm, 717, rfl⟩
abbrev main_v497 : Ref sig .tc := ⟨.hbm, 718, rfl⟩
abbrev main_v498 : Ref sig .tc := ⟨.hbm, 719, rfl⟩
abbrev main_v499 : Ref sig .tc := ⟨.hbm, 720, rfl⟩
abbrev main_v500 : Ref sig .tc := ⟨.hbm, 721, rfl⟩
abbrev main_v501 : Ref sig .tc := ⟨.hbm, 722, rfl⟩
abbrev main_v502 : Ref sig .tc := ⟨.hbm, 723, rfl⟩
abbrev main_v503 : Ref sig .tc := ⟨.hbm, 724, rfl⟩
abbrev main_c_142 : Ref sig .tc := ⟨.hbm, 725, rfl⟩
abbrev main_v504 : Ref sig .tc := ⟨.hbm, 726, rfl⟩
abbrev main_v505 : Ref sig .tc := ⟨.hbm, 727, rfl⟩
abbrev main_c_143 : Ref sig .tc := ⟨.hbm, 728, rfl⟩
abbrev main_v506 : Ref sig .tc := ⟨.hbm, 729, rfl⟩
abbrev main_v507 : Ref sig .tc := ⟨.hbm, 730, rfl⟩
abbrev main_v508 : Ref sig .tc := ⟨.hbm, 731, rfl⟩
abbrev main_v509 : Ref sig .tc := ⟨.hbm, 732, rfl⟩
abbrev main_v510 : Ref sig .tc := ⟨.hbm, 733, rfl⟩
abbrev main_v511 : Ref sig .tc := ⟨.hbm, 734, rfl⟩
abbrev main_v512 : Ref sig .tc := ⟨.hbm, 735, rfl⟩

abbrev nD : Nat := 1
abbrev τ : Topo := Topo.v7x

variable {F : FTy → Type} [FloatOps F]
-- ==== Proof.Reads.lean ====
/-
  Vector operations on matrices read at a row and a column, at any extents: matrix products, sums and maxima of rows,
  casts of a column, spreads of a row, a column or a single entry, and one-hot tests.  Nothing here names a program.
-/
module

public import Idealize.ShloMosaic.Lib.ValueIdx
public import Idealize.ShloMosaic.Lib.IdealHost
public import Idealize.ShloMosaic.Lib.StableHlo.Predicate
public import Idealize.ShloMosaic.Lib.Pipeline.Value
public import Idealize.ShloMosaic.PureOps.Ideal
public import Idealize.ShloMosaic.PureOps.Ideal.Laws

@[expose] public section

noncomputable section

namespace Cert.Reads

open Idealize.ShloMosaic Idealize.ShloMosaic.ValueIdx
open scoped BigOperators

variable {α : Type} {M K N n m : Nat} {φ ψ : FTy}

/-! ## Products -/

/-- The index pairs of a plain product. -/
theorem plain_idx (d : DotDims ⟨2, ![M, K]⟩ ⟨2, ![K, N]⟩ ⟨2, ![M, N]⟩) (h1 : d.lhsContracting = [1]) (h2 : d.rhsContracting = [0])
    (h3 : d.lhsNonContracting = [0]) (h4 : d.rhsNonContracting = [1]) (h5 : d.lhsBatch = []) (h6 : d.rhsBatch = [])
    (x : FVec Ideal ⟨2, ![M, K]⟩ φ) (y : FVec Ideal ⟨2, ![K, N]⟩ ψ) (i : Fin M) (j : Fin N) :
    ∑ k : d.contr.Idx, x (d.lhsIdx (ix2 i j) k) * y (d.rhsIdx (ix2 i j) k) = ∑ k : Fin K, x (ix2 i k) * y (ix2 k j) := by
  obtain ⟨lc, rc, ln, rn, lb, rb, wf⟩ := d
  dsimp only at h1 h2 h3 h4 h5 h6
  subst h1 h2 h3 h4 h5 h6
  rw [← Equiv.sum_comp (contrEquiv1 _ K rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

/-- The index pairs of a product whose right operand is transposed. -/
theorem transposed_idx (d : DotDims ⟨2, ![M, K]⟩ ⟨2, ![N, K]⟩ ⟨2, ![M, N]⟩) (h1 : d.lhsContracting = [1]) (h2 : d.rhsContracting = [1])
    (h3 : d.lhsNonContracting = [0]) (h4 : d.rhsNonContracting = [0]) (h5 : d.lhsBatch = []) (h6 : d.rhsBatch = [])
    (x : FVec Ideal ⟨2, ![M, K]⟩ φ) (y : FVec Ideal ⟨2, ![N, K]⟩ ψ) (i : Fin M) (j : Fin N) :
    ∑ k : d.contr.Idx, x (d.lhsIdx (ix2 i j) k) * y (d.rhsIdx (ix2 i j) k) = ∑ k : Fin K, x (ix2 i k) * y (ix2 j k) := by
  obtain ⟨lc, rc, ln, rn, lb, rb, wf⟩ := d
  dsimp only at h1 h2 h3 h4 h5 h6
  subst h1 h2 h3 h4 h5 h6
  rw [← Equiv.sum_comp (contrEquiv1 _ K rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

/-- The index pairs of a product whose left operand is transposed. -/
theorem first_idx (d : DotDims ⟨2, ![K, M]⟩ ⟨2, ![K, N]⟩ ⟨2, ![M, N]⟩) (h1 : d.lhsContracting = [0]) (h2 : d.rhsContracting = [0])
    (h3 : d.lhsNonContracting = [1]) (h4 : d.rhsNonContracting = [1]) (h5 : d.lhsBatch = []) (h6 : d.rhsBatch = [])
    (x : FVec Ideal ⟨2, ![K, M]⟩ φ) (y : FVec Ideal ⟨2, ![K, N]⟩ ψ) (i : Fin M) (j : Fin N) :
    ∑ k : d.contr.Idx, x (d.lhsIdx (ix2 i j) k) * y (d.rhsIdx (ix2 i j) k) = ∑ k : Fin K, x (ix2 k i) * y (ix2 k j) := by
  obtain ⟨lc, rc, ln, rn, lb, rb, wf⟩ := d
  dsimp only at h1 h2 h3 h4 h5 h6
  subst h1 h2 h3 h4 h5 h6
  rw [← Equiv.sum_comp (contrEquiv1 _ K rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

/-- The kernel's plain product into zeros. -/
theorem matmul_plain (d : DotDims ⟨2, ![M, K]⟩ ⟨2, ![K, N]⟩ ⟨2, ![M, N]⟩) (h1 : d.lhsContracting = [1]) (h2 : d.rhsContracting = [0])
    (h3 : d.lhsNonContracting = [0]) (h4 : d.rhsNonContracting = [1]) (h5 : d.lhsBatch = []) (h6 : d.rhsBatch = [])
    (prec : Option ContractPrecision) (x : FVec Ideal ⟨2, ![M, K]⟩ φ) (y : FVec Ideal ⟨2, ![K, N]⟩ ψ) (i : Fin M) (j : Fin N) :
    FloatOps.matmul d prec x y (constant _ .f32 0x00000000#32) (ix2 i j) = ∑ k : Fin K, x (ix2 i k) * y (ix2 k j) := by
  rw [Ideal.matmul_constant_zero_apply, plain_idx d h1 h2 h3 h4 h5 h6]

/-- The kernel's product with the right operand transposed, into zeros. -/
theorem matmul_transposed (d : DotDims ⟨2, ![M, K]⟩ ⟨2, ![N, K]⟩ ⟨2, ![M, N]⟩) (h1 : d.lhsContracting = [1])
    (h2 : d.rhsContracting = [1]) (h3 : d.lhsNonContracting = [0]) (h4 : d.rhsNonContracting = [0]) (h5 : d.lhsBatch = [])
    (h6 : d.rhsBatch = []) (prec : Option ContractPrecision) (x : FVec Ideal ⟨2, ![M, K]⟩ φ) (y : FVec Ideal ⟨2, ![N, K]⟩ ψ)
    (i : Fin M) (j : Fin N) :
    FloatOps.matmul d prec x y (constant _ .f32 0x00000000#32) (ix2 i j) = ∑ k : Fin K, x (ix2 i k) * y (ix2 j k) := by
  rw [Ideal.matmul_constant_zero_apply, transposed_idx d h1 h2 h3 h4 h5 h6]

/-- The kernel's product with the left operand transposed, into zeros. -/
theorem matmul_first (d : DotDims ⟨2, ![K, M]⟩ ⟨2, ![K, N]⟩ ⟨2, ![M, N]⟩) (h1 : d.lhsContracting = [0])
    (h2 : d.rhsContracting = [0]) (h3 : d.lhsNonContracting = [1]) (h4 : d.rhsNonContracting = [1]) (h5 : d.lhsBatch = [])
    (h6 : d.rhsBatch = []) (prec : Option ContractPrecision) (x : FVec Ideal ⟨2, ![K, M]⟩ φ) (y : FVec Ideal ⟨2, ![K, N]⟩ ψ)
    (i : Fin M) (j : Fin N) :
    FloatOps.matmul d prec x y (constant _ .f32 0x00000000#32) (ix2 i j) = ∑ k : Fin K, x (ix2 k i) * y (ix2 k j) := by
  rw [Ideal.matmul_constant_zero_apply, first_idx d h1 h2 h3 h4 h5 h6]

/-- The host's plain product. -/
theorem dot_plain (d : DotDims ⟨2, ![M, K]⟩ ⟨2, ![K, N]⟩ ⟨2, ![M, N]⟩) (h1 : d.lhsContracting = [1]) (h2 : d.rhsContracting = [0])
    (h3 : d.lhsNonContracting = [0]) (h4 : d.rhsNonContracting = [1]) (h5 : d.lhsBatch = []) (h6 : d.rhsBatch = [])
    (prec : Option ContractPrecision) (x : FVec Ideal ⟨2, ![M, K]⟩ φ) (y : FVec Ideal ⟨2, ![K, N]⟩ φ) (i : Fin M) (j : Fin N) :
    Host.dotGeneral d prec x y (ix2 i j) = ∑ k : Fin K, x (ix2 i k) * y (ix2 k j) := by
  exact (Ideal.dotGeneral_apply d prec _ x y (ix2 i j)).trans (plain_idx d h1 h2 h3 h4 h5 h6 x y i j)

/-! ## Reductions of a row -/

/-- The entries a row reduction goes over are those of the row. -/
theorem lift_row (h : (⟨2, ![n, m]⟩ : Shape).Reduces [1] ⟨1, ![n]⟩) (i : Fin n) (k : Fin m) :
    h.lift (ix1 i) k = ix2 i k := by
  funext a
  match a with
  | ⟨0, _⟩ => rfl
  | ⟨1, _⟩ => rfl

/-- The kernel's row sum. -/
theorem row_sum (x : FVec Ideal ⟨2, ![n, m]⟩ .f32) (h : (⟨2, ![n, m]⟩ : Shape).Reduces [1] ⟨1, ![n]⟩) (hφ : FKind.Formats .f32)
    (hacc : (0x00000000#32 : BitVec 32) = FKind.add.neutral .f32 hφ) (i : Fin n) :
    multiReduction .add [1] ⟨1, ![n]⟩ x 0x00000000#32 h hφ hacc (ix1 i) = ∑ k : Fin m, x (ix2 i k) := by
  rw [Ideal.multiReduction_add_single]
  exact Finset.sum_congr rfl fun k _ => congrArg x (lift_row h i k)

/-- The kernel's row maximum. -/
theorem row_max (x : FVec Ideal ⟨2, ![n, m]⟩ .f32) (h : (⟨2, ![n, m]⟩ : Shape).Reduces [1] ⟨1, ![n]⟩) (hφ : FKind.Formats .f32)
    (hacc : (0xFF800000#32 : BitVec 32) = FKind.maximumf.neutral .f32 hφ) (i : Fin n) :
    multiReduction .maximumf [1] ⟨1, ![n]⟩ x 0xFF800000#32 h hφ hacc (ix1 i)
      = (Finset.univ : Finset (Fin m)).fold max (Ideal.ofBits .f32 0xFF800000#32) fun k => x (ix2 i k) := by
  rw [Ideal.multiReduction_maximumf_single]
  exact congrArg (fun g => Finset.fold max _ g Finset.univ) (funext fun k => congrArg x (lift_row h i k))

/-- The host's row sum, from an initial value. -/
theorem host_row_sum {u : Shape} (x : FVec Ideal ⟨2, ![n, m]⟩ .f32) (init : FVec Ideal u .f32)
    (h : (⟨2, ![n, m]⟩ : Shape).ReducesTo [1] ⟨1, ![n]⟩) (h' : (⟨2, ![n, m]⟩ : Shape).Reduces [1] ⟨1, ![n]⟩) (hu : 0 < u.numel)
    (i : Fin n) :
    Host.reduceAdd x init h hu (ix1 i) = init (Shape.Idx.first hu) + ∑ k : Fin m, x (ix2 i k) := by
  rw [hostReduceAdd_apply, Ideal.hostReduceAdd_single h h']
  exact congrArg _ (Finset.sum_congr rfl fun k _ => congrArg x (lift_row h' i k))

/-- The host's row maximum, from an initial value. -/
theorem host_row_max {u : Shape} (x : FVec Ideal ⟨2, ![n, m]⟩ .f32) (init : FVec Ideal u .f32)
    (h : (⟨2, ![n, m]⟩ : Shape).ReducesTo [1] ⟨1, ![n]⟩) (h' : (⟨2, ![n, m]⟩ : Shape).Reduces [1] ⟨1, ![n]⟩) (hu : 0 < u.numel)
    (i : Fin n) :
    Host.reduce (FloatOps.maximumf (F := Ideal) (φ := .f32)) x init h hu (ix1 i)
      = (Finset.univ : Finset (Fin m)).fold max (init (Shape.Idx.first hu)) fun k => x (ix2 i k) := by
  have key := Host.reduce_eq_fold_single (max : EReal → EReal → EReal) x init h h' hu (ix1 i)
  refine Eq.trans ?_ (key.trans (congrArg (fun g => Finset.fold max _ g Finset.univ) (funext fun k => congrArg x (lift_row h' i k))))
  rfl

/-! ## Casts and spreads -/

/-- A vector cast to a column. -/
theorem cast_column (x : (⟨1, ![n]⟩ : Shape).Idx → α) (h : (⟨1, ![n]⟩ : Shape).ShapeCasts ⟨2, ![n, 1]⟩) (i : Fin n) :
    shapeCast ⟨2, ![n, 1]⟩ x h (ix2 i (0 : Fin 1)) = x (ix1 i) := by
  refine shapeCast_apply x h _ _ ?_
  rw [Shape.rowMajor_val_one, Shape.rowMajor_val_two]
  show i.val = i.val * 1 + 0
  omega

/-- A column cast to a vector. -/
theorem cast_vector (x : (⟨2, ![n, 1]⟩ : Shape).Idx → α) (h : (⟨2, ![n, 1]⟩ : Shape).ShapeCasts ⟨1, ![n]⟩) (i : Fin n) :
    shapeCast ⟨1, ![n]⟩ x h (ix1 i) = x (ix2 i (0 : Fin 1)) := by
  refine shapeCast_apply x h _ _ ?_
  rw [Shape.rowMajor_val_one, Shape.rowMajor_val_two]
  show i.val * 1 + 0 = i.val
  omega

/-- A row cast to a vector. -/
theorem cast_row (x : (⟨2, ![1, n]⟩ : Shape).Idx → α) (h : (⟨2, ![1, n]⟩ : Shape).ShapeCasts ⟨1, ![n]⟩) (i : Fin n) :
    shapeCast ⟨1, ![n]⟩ x h (ix1 i) = x (ix2 (0 : Fin 1) i) := by
  refine shapeCast_apply x h _ _ ?_
  rw [Shape.rowMajor_val_one, Shape.rowMajor_val_two]
  show 0 * n + i.val = i.val
  omega

/-- A vector cast to a row. -/
theorem cast_to_row (x : (⟨1, ![n]⟩ : Shape).Idx → α) (h : (⟨1, ![n]⟩ : Shape).ShapeCasts ⟨2, ![1, n]⟩) (i : Fin n) :
    shapeCast ⟨2, ![1, n]⟩ x h (ix2 (0 : Fin 1) i) = x (ix1 i) := by
  refine shapeCast_apply x h _ _ ?_
  rw [Shape.rowMajor_val_one, Shape.rowMajor_val_two]
  show i.val = 0 * n + i.val
  omega

/-- A cast to the same shape. -/
theorem cast_same {s : Shape} (x : s.Idx → α) (h : s.ShapeCasts s) : shapeCast s x h = x :=
  funext fun j => shapeCast_apply x h j j rfl

/-- A column cast to the same column, and a column spread over the columns. -/
theorem spread_column (x : (⟨2, ![n, 1]⟩ : Shape).Idx → α) (h : (⟨2, ![n, 1]⟩ : Shape).Broadcasts ⟨2, ![n, m]⟩) (i : Fin n) (j : Fin m) :
    broadcastTo ⟨2, ![n, m]⟩ x h (ix2 i j) = x (ix2 i (0 : Fin 1)) := by
  refine broadcastTo_apply x h _ _ fun a => ?_
  match a with
  | ⟨0, _⟩ =>
    show i.val = if n = 1 then 0 else i.val
    have := i.isLt
    split <;> omega
  | ⟨1, _⟩ => rfl

/-- A row spread over the rows. -/
theorem spread_row (x : (⟨2, ![1, m]⟩ : Shape).Idx → α) (h : (⟨2, ![1, m]⟩ : Shape).Broadcasts ⟨2, ![n, m]⟩) (i : Fin n) (j : Fin m) :
    broadcastTo ⟨2, ![n, m]⟩ x h (ix2 i j) = x (ix2 (0 : Fin 1) j) := by
  refine broadcastTo_apply x h _ _ fun a => ?_
  match a with
  | ⟨0, _⟩ => rfl
  | ⟨1, _⟩ =>
    show j.val = if m = 1 then 0 else j.val
    have := j.isLt
    split <;> omega

/-- The host's spread of a vector to a column, over columns, and over rows; and of a scalar. -/
theorem host_column (h : (⟨1, ![n]⟩ : Shape).BroadcastsInDim ⟨2, ![n, m]⟩ ![0]) (x : (⟨1, ![n]⟩ : Shape).Idx → α) (i : Fin n) (j : Fin m) :
    broadcastInDim ⟨2, ![n, m]⟩ ![0] h x (ix2 i j) = x (ix1 i) := by
  refine broadcastInDim_apply _ h x _ _ fun a => ?_
  match a with
  | ⟨0, _⟩ =>
    show i.val = if n = 1 then 0 else i.val
    have := i.isLt
    split <;> omega

/-- A vector put along every row. -/
theorem host_row (h : (⟨1, ![m]⟩ : Shape).BroadcastsInDim ⟨2, ![n, m]⟩ ![1]) (x : (⟨1, ![m]⟩ : Shape).Idx → α) (i : Fin n) (j : Fin m) :
    broadcastInDim ⟨2, ![n, m]⟩ ![1] h x (ix2 i j) = x (ix1 j) := by
  refine broadcastInDim_apply _ h x _ _ fun a => ?_
  match a with
  | ⟨0, _⟩ =>
    show j.val = if m = 1 then 0 else j.val
    have := j.isLt
    split <;> omega

/-- A column repeated along the rows. -/
theorem host_spread_column (h : (⟨2, ![n, 1]⟩ : Shape).BroadcastsInDim ⟨2, ![n, m]⟩ ![0, 1]) (x : (⟨2, ![n, 1]⟩ : Shape).Idx → α)
    (i : Fin n) (j : Fin m) : broadcastInDim ⟨2, ![n, m]⟩ ![0, 1] h x (ix2 i j) = x (ix2 i (0 : Fin 1)) := by
  refine broadcastInDim_apply _ h x _ _ fun a => ?_
  match a with
  | ⟨0, _⟩ =>
    show i.val = if n = 1 then 0 else i.val
    have := i.isLt
    split <;> omega
  | ⟨1, _⟩ => rfl

/-- A row repeated down the columns. -/
theorem host_spread_row (h : (⟨2, ![1, m]⟩ : Shape).BroadcastsInDim ⟨2, ![n, m]⟩ ![0, 1]) (x : (⟨2, ![1, m]⟩ : Shape).Idx → α)
    (i : Fin n) (j : Fin m) : broadcastInDim ⟨2, ![n, m]⟩ ![0, 1] h x (ix2 i j) = x (ix2 (0 : Fin 1) j) := by
  refine broadcastInDim_apply _ h x _ _ fun a => ?_
  match a with
  | ⟨0, _⟩ => rfl
  | ⟨1, _⟩ =>
    show j.val = if m = 1 then 0 else j.val
    have := j.isLt
    split <;> omega

/-- A scalar spread over an array. -/
theorem host_scalar {T : Shape} (h : (⟨0, ![]⟩ : Shape).BroadcastsInDim T ![]) (x : (⟨0, ![]⟩ : Shape).Idx → α) (i : T.Idx) :
    broadcastInDim T ![] h x i = x ix0 :=
  (broadcastInDim_scalar_apply h x i).trans (congrArg x (eq_ix0 _))

/-! ## Words and tests -/

/-- A bit widened and read as a float: one where the test holds, zero elsewhere. -/
theorem test_float {s : Shape} (b : IVec s 1) (h : 1 < 32) (i : s.Idx) :
    (sitofp .f32 (extui 32 b h) : FVec Ideal s .f32) i = if b i = 1#1 then (1 : EReal) else 0 := by
  show (((((b i).setWidth 32).toInt : ℝ)) : EReal) = _
  rcases BitVec.eq_zero_or_eq_one (b i) with h | h <;> rw [h] <;> norm_num

/-- The host's reading of a bit as a float. -/
theorem test_host {s : Shape} (b : IVec s 1) (i : s.Idx) :
    (uitofp .f32 b : FVec Ideal s .f32) i = if b i = 1#1 then (1 : EReal) else 0 := by
  show ((((b i).toNat : ℝ)) : EReal) = _
  rcases BitVec.eq_zero_or_eq_one (b i) with h | h <;> rw [h] <;> norm_num

/-- The conjunction of two tests. -/
theorem andi_one {s : Shape} (a b : IVec s 1) (i : s.Idx) : andi a b i = 1#1 ↔ a i = 1#1 ∧ b i = 1#1 := by
  show a i &&& b i = 1#1 ↔ _
  rcases BitVec.eq_zero_or_eq_one (a i) with h | h <;> rcases BitVec.eq_zero_or_eq_one (b i) with h' | h' <;> rw [h, h'] <;> decide

/-- The disjunction of two tests. -/
theorem ori_one {s : Shape} (a b : IVec s 1) (i : s.Idx) : ori a b i = 1#1 ↔ a i = 1#1 ∨ b i = 1#1 := by
  show a i ||| b i = 1#1 ↔ _
  rcases BitVec.eq_zero_or_eq_one (a i) with h | h <;> rcases BitVec.eq_zero_or_eq_one (b i) with h' | h' <;> rw [h, h'] <;> decide

/-- Small naturals with the same word are equal. -/
theorem word_inj {a b : Nat} (ha : a < 2 ^ 32) (hb : b < 2 ^ 32) : BitVec.ofNat 32 a = BitVec.ofNat 32 b ↔ a = b := by
  constructor
  · intro h
    have := congrArg BitVec.toNat h
    simp only [BitVec.toNat_ofNat] at this
    omega
  · rintro rfl; rfl

/-- Equality of two words that are small naturals. -/
theorem eq_word {s : Shape} (x y : IVec s 32) (i : s.Idx) {a b : Nat} (hx : x i = BitVec.ofNat 32 a) (hy : y i = BitVec.ofNat 32 b)
    (ha : a < 2 ^ 31) (hb : b < 2 ^ 31) : cmpi .eq x y i = 1#1 ↔ a = b := by
  show IntOp.cmpi .eq (x i) (y i) = 1#1 ↔ _
  rw [StableHlo.Predicate.cmpi_eq_iff, hx, hy, word_inj (by omega) (by omega)]

/-- The signed comparisons of two words that are small naturals. -/
theorem lt_word {s : Shape} (x y : IVec s 32) (i : s.Idx) {a b : Nat} (hx : x i = BitVec.ofNat 32 a) (hy : y i = BitVec.ofNat 32 b)
    (ha : a < 2 ^ 31) (hb : b < 2 ^ 31) : cmpi .slt x y i = 1#1 ↔ a < b := by
  show IntOp.cmpi .slt (x i) (y i) = 1#1 ↔ _
  rw [hx, hy]
  exact StableHlo.Predicate.slt_ofNat_iff a b ha hb

/-- The test of at most, for two words that are small naturals. -/
theorem le_word {s : Shape} (x y : IVec s 32) (i : s.Idx) {a b : Nat} (hx : x i = BitVec.ofNat 32 a) (hy : y i = BitVec.ofNat 32 b)
    (ha : a < 2 ^ 31) (hb : b < 2 ^ 31) : cmpi .sle x y i = 1#1 ↔ a ≤ b := by
  show IntOp.cmpi .sle (x i) (y i) = 1#1 ↔ _
  rw [hx, hy]
  exact StableHlo.Predicate.sle_ofNat_iff a b ha hb

/-- The test of at least, for two words that are small naturals. -/
theorem ge_word {s : Shape} (x y : IVec s 32) (i : s.Idx) {a b : Nat} (hx : x i = BitVec.ofNat 32 a) (hy : y i = BitVec.ofNat 32 b)
    (ha : a < 2 ^ 31) (hb : b < 2 ^ 31) : cmpi .sge x y i = 1#1 ↔ b ≤ a := by
  show IntOp.cmpi .sge (x i) (y i) = 1#1 ↔ _
  rw [hx, hy]
  exact StableHlo.Predicate.sle_ofNat_iff b a hb ha

/-- A select whose test is a proposition. -/
theorem select_of {s : Shape} (c : IVec s 1) (a b : s.Idx → α) (i : s.Idx) (p : Prop) [Decidable p] (h : c i = 1#1 ↔ p) :
    select c a b i = if p then a i else b i := by
  show Scalar.select (c i) (a i) (b i) = _
  by_cases hp : p
  · rw [if_pos hp, h.2 hp]; rfl
  · rw [if_neg hp, eq_zero_of_ne_one fun h' => hp (h.1 h')]; rfl

/-- The test of greater, for two floats. -/
theorem gt_float {s : Shape} (a b : FVec Ideal s φ) (i : s.Idx) : cmpf .ogt a b i = 1#1 ↔ b i < a i := by
  show Ideal.cmp .ogt (a i) (b i) = 1#1 ↔ _
  simp [Ideal.cmp, StableHlo.Predicate.ofBool_eq_one_iff]

/-- The test of at least, for two floats. -/
theorem ge_float {s : Shape} (a b : FVec Ideal s φ) (i : s.Idx) : cmpf .oge a b i = 1#1 ↔ b i ≤ a i := by
  show Ideal.cmp .oge (a i) (b i) = 1#1 ↔ _
  simp [Ideal.cmp, StableHlo.Predicate.ofBool_eq_one_iff]

/-- The test of equal, for two floats. -/
theorem eq_float {s : Shape} (a b : FVec Ideal s φ) (i : s.Idx) : cmpf .oeq a b i = 1#1 ↔ a i = b i := by
  show Ideal.cmp .oeq (a i) (b i) = 1#1 ↔ _
  simp [Ideal.cmp, StableHlo.Predicate.ofBool_eq_one_iff]

/-- A small natural read as a float and back as a word. -/
theorem fptosi_nat {s : Shape} (x : FVec Ideal s .f32) (i : s.Idx) {k : Nat} (hk : k < 2 ^ 31) (h : x i = ((k : ℝ) : EReal)) :
    fptosi 32 x i = BitVec.ofNat 32 k := by
  show Ideal.fptosi 32 (x i) = _
  rw [h]
  show BitVec.ofInt 32 (max (-((2 ^ (32 - 1) : Nat) : Int)) (min (((2 ^ (32 - 1) : Nat) : Int) - 1)
    (if (0 : ℝ) ≤ (k : ℝ) then ⌊(k : ℝ)⌋ else ⌈(k : ℝ)⌉))) = _
  rw [if_pos (Nat.cast_nonneg k), Int.floor_natCast, min_eq_right (by omega), max_eq_right (by omega)]
  exact BitVec.ofInt_natCast 32 k

end Cert.Reads
-- ==== Proof.KerDots.lean ====
/-
  The kernel's matrix products, each read at a row and a column as the sum over its contracted axis.
-/
module

public import proofs.«01_k».proof.Proof.Gen.KernelIdeal.Skeleton
public import proofs.«01_k».proof.Proof.Reads

@[expose] public section

noncomputable section

namespace Cert.KerDots

open Idealize.ShloMosaic Idealize.ShloMosaic.ValueIdx Cert.KernelIdeal Cert.KernelIdeal.Gen Cert.Reads
open scoped BigOperators

/-- The axes of a plain product: the second of the left operand against the first of the right one. -/
abbrev Plain {n k m : Nat} (d : DotDims ⟨2, ![n, k]⟩ ⟨2, ![k, m]⟩ ⟨2, ![n, m]⟩) : Prop :=
  d.lhsContracting = [1] ∧ d.rhsContracting = [0] ∧ d.lhsNonContracting = [0] ∧ d.rhsNonContracting = [1] ∧ d.lhsBatch = [] ∧ d.rhsBatch = []

/-- A plain product of the kernel, into zeros, is the sum of the products along the shared axis. -/
theorem mm {n k m : Nat} (d : DotDims ⟨2, ![n, k]⟩ ⟨2, ![k, m]⟩ ⟨2, ![n, m]⟩)
    (h : Plain d := by exact ⟨rfl, rfl, rfl, rfl, rfl, rfl⟩)
    (p : Option ContractPrecision) (x : FVec Ideal ⟨2, ![n, k]⟩ .f32) (y : FVec Ideal ⟨2, ![k, m]⟩ .f32) (i : Fin n) (j : Fin m) :
    matmul d p x y (constant ⟨2, ![n, m]⟩ .f32 0x00000000#32) (ix2 i j) = ∑ l : Fin k, x (ix2 i l) * y (ix2 l j) :=
  matmul_plain d h.1 h.2.1 h.2.2.1 h.2.2.2.1 h.2.2.2.2.1 h.2.2.2.2.2 p x y i j

/-- Two matrices over the edges, multiplied along the edges. -/
theorem mm_edges (p : Option ContractPrecision) (x : FVec Ideal S100x4000 .f32) (y : FVec Ideal S100x4000 .f32) (i j : Fin 100) :
    matmul dot_S100x4000_S100x4000_S100x100_1_1_0_0_n_n p x y (constant S100x100 .f32 0x00000000#32) (ix2 i j)
      = ∑ e : Fin 4000, x (ix2 i e) * y (ix2 j e) :=
  matmul_transposed _ rfl rfl rfl rfl rfl rfl p x y i j

/-- The transposed assignment times the features. -/
theorem mm_coarse (p : Option ContractPrecision) (x : FVec Ideal S100x50 .f32) (y : FVec Ideal S100x20 .f32) (i : Fin 50) (j : Fin 20) :
    matmul dot_S100x50_S100x20_S50x20_0_0_1_1_n_n p x y (constant S50x20 .f32 0x00000000#32) (ix2 i j)
      = ∑ k : Fin 100, x (ix2 k i) * y (ix2 k j) :=
  matmul_first _ rfl rfl rfl rfl rfl rfl p x y i j

/-- The row sums and the row maxima the kernel takes. -/
theorem sum_100_100 (x : FVec Ideal S100x100 .f32) (i : Fin 100) :
    multiReduction .add [1] S100 x 0x00000000#32 reduces_S100x100_S100 (.inl rfl) rfl (ix1 i) = ∑ k : Fin 100, x (ix2 i k) :=
  row_sum x _ (.inl rfl) rfl i

/-- The sum of a row of the pooled count matrix. -/
theorem sum_50_50 (x : FVec Ideal S50x50 .f32) (i : Fin 50) :
    multiReduction .add [1] S50 x 0x00000000#32 reduces_S50x50_S50 (.inl rfl) rfl (ix1 i) = ∑ k : Fin 50, x (ix2 i k) :=
  row_sum x _ (.inl rfl) rfl i

/-- The sum of a row of the assignment. -/
theorem sum_100_50 (x : FVec Ideal S100x50 .f32) (i : Fin 100) :
    multiReduction .add [1] S100 x 0x00000000#32 reduces_S100x50_S100 (.inl rfl) rfl (ix1 i) = ∑ k : Fin 50, x (ix2 i k) :=
  row_sum x _ (.inl rfl) rfl i

/-- The largest entry of a row of the assignment. -/
theorem max_100_50 (x : FVec Ideal S100x50 .f32) (i : Fin 100) :
    multiReduction .maximumf [1] S100 x 0xFF800000#32 reduces_S100x50_S100 (.inl rfl) rfl (ix1 i)
      = (Finset.univ : Finset (Fin 50)).fold max (Ideal.ofBits .f32 0xFF800000#32) fun k => x (ix2 i k) :=
  row_max x _ (.inl rfl) rfl i

end Cert.KerDots
-- ==== Proof.Sums.lean ====
/-
  Sums of extended reals.  Distributivity fails on the extended reals in general; it holds for a sum of nonnegative
  coefficients, and that is all the edge sums of this proof need.
-/
module

public import Mathlib.Data.EReal.Operations
public import Mathlib.Data.EReal.Inv
public import Mathlib.Algebra.BigOperators.Fin
public import Mathlib.Algebra.BigOperators.Ring.Finset
public import Mathlib.Algebra.Order.BigOperators.Group.Finset

@[expose] public section

noncomputable section

namespace Cert.Sums

open Finset

variable {ι κ : Type*}

/-- A product distributes over a sum of nonnegative coefficients. -/
theorem sum_mul_nonneg (s : Finset ι) (c : ι → EReal) (hc : ∀ i ∈ s, 0 ≤ c i) (z : EReal) :
    (∑ i ∈ s, c i) * z = ∑ i ∈ s, c i * z := by
  classical
  induction s using Finset.induction_on with
  | empty => simp
  | insert a s ha ih =>
    rw [sum_insert ha, sum_insert ha, EReal.right_distrib_of_nonneg (hc a (mem_insert_self a s))
      (sum_nonneg fun i hi => hc i (mem_insert_of_mem hi)), ih fun i hi => hc i (mem_insert_of_mem hi)]

/-- A product on the left distributes over a sum of nonnegative coefficients. -/
theorem mul_sum_nonneg (s : Finset ι) (c : ι → EReal) (hc : ∀ i ∈ s, 0 ≤ c i) (z : EReal) :
    z * (∑ i ∈ s, c i) = ∑ i ∈ s, z * c i := by
  rw [mul_comm, sum_mul_nonneg s c hc]; exact sum_congr rfl fun i _ => mul_comm _ _

/-- The sum of a one-hot row against a column picks one entry. -/
theorem onehot_mul [Fintype ι] [DecidableEq ι] (r : ι) (z : ι → EReal) :
    ∑ j, (if j = r then (1 : EReal) else 0) * z j = z r := by
  simp [ite_mul]

/-- The same with the comparison the other way round. -/
theorem onehot_mul' [Fintype ι] [DecidableEq ι] (r : ι) (z : ι → EReal) :
    ∑ j, (if r = j then (1 : EReal) else 0) * z j = z r := by
  simp [ite_mul]

/-- A column against a one-hot row, factors exchanged. -/
theorem mul_onehot [Fintype ι] [DecidableEq ι] (r : ι) (z : ι → EReal) :
    ∑ j, z j * (if j = r then (1 : EReal) else 0) = z r := by
  simp [mul_ite]

/-- The same with the comparison the other way round. -/
theorem mul_onehot' [Fintype ι] [DecidableEq ι] (r : ι) (z : ι → EReal) :
    ∑ j, z j * (if r = j then (1 : EReal) else 0) = z r := by
  simp [mul_ite]

/-- A matrix whose entries add up nonnegative edge coefficients, against a column: the sum over the edges. -/
theorem edge_sum {E N : Type*} [Fintype E] [Fintype N] [DecidableEq N] (p : E → Prop) [DecidablePred p] (row : E → N)
    (c : E → EReal) (hc : ∀ e, 0 ≤ c e) (z : N → EReal) :
    ∑ j, (∑ e, if p e ∧ row e = j then c e else 0) * z j = ∑ e, if p e then c e * z (row e) else 0 := by
  have h1 : ∀ j, (∑ e, if p e ∧ row e = j then c e else 0) * z j
      = ∑ e, if p e ∧ row e = j then c e * z j else 0 := fun j => by
    rw [sum_mul_nonneg _ _ fun e _ => by split <;> simp [hc]]
    exact sum_congr rfl fun e _ => by split <;> simp
  rw [sum_congr rfl fun j _ => h1 j, sum_comm]
  refine sum_congr rfl fun e _ => ?_
  by_cases hp : p e <;> simp [hp]

/-- The row sums of such a matrix. -/
theorem edge_total {E N : Type*} [Fintype E] [Fintype N] [DecidableEq N] (p : E → Prop) [DecidablePred p] (row : E → N)
    (c : E → EReal) :
    ∑ j, (∑ e, if p e ∧ row e = j then c e else 0) = ∑ e, if p e then c e else 0 := by
  rw [sum_comm]
  refine sum_congr rfl fun e _ => ?_
  by_cases hp : p e <;> simp [hp]

/-- A finite sum of reals, read in the extended reals. -/
theorem coe_sum (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- Counting by adding ones. -/
theorem count_eq [Fintype ι] (p : ι → Prop) [DecidablePred p] :
    ∑ i, (if p i then (1 : EReal) else 0) = (((univ.filter p).card : ℝ) : EReal) := by
  rw [show (((univ.filter p).card : ℝ)) = ∑ i, (if p i then (1 : ℝ) else 0) by simp, coe_sum]
  exact sum_congr rfl fun i _ => by split <;> simp

end Cert.Sums
-- ==== Proof.Model.lean ====
/-
  The mathematics of the network as plain functions of plain indices: graph convolution with symmetric normalisation,
  the rank-1 attention score, the pooled Chebyshev layer, and the assignment.  `row e → col e` is edge `e`.
-/
module

public import Idealize.ShloMosaic.PureOps.Ideal
public import Idealize.ShloMosaic.PureOps.Ideal.Laws
public import proofs.«01_k».proof.Proof.Sums

@[expose] public section

noncomputable section

namespace Cert.Model

open Idealize.ShloMosaic Cert.Sums
open scoped BigOperators

/-- A matrix of extended reals. -/
abbrev Mat (n m : Nat) := Fin n → Fin m → EReal

/-- The product of two matrices. -/
def mul {n k m : Nat} (x : Mat n k) (y : Mat k m) : Mat n m := fun i j => ∑ q, x i q * y q j

/-- The leaky rectifier of slope `c`. -/
def leaky (c x : EReal) : EReal := if 0 ≤ x then x else c * x

variable {E : Type} [Fintype E] (row col : E → Fin 100)

/-- The weighted adjacency matrix: entry `(i, j)` adds the weights of the edges from `j` to `i`. -/
def adj (w : E → EReal) : Mat 100 100 := fun i j => ∑ e, if col e = i ∧ row e = j then w e else 0

/-- The weight arriving at a node, its loop of weight one included. -/
def deg (w : E → EReal) (i : Fin 100) : EReal := (∑ e, if col e = i then w e else 0) + 1

/-- The inverse square root of the degree. -/
def dis (w : E → EReal) (i : Fin 100) : EReal := Ideal.rsqrt (deg col w i)

/-- One graph convolution (before the bias): the normalised messages over the edges and over the node's loop. -/
def gcn {m : Nat} (w : E → EReal) (z : Mat 100 m) : Mat 100 m := fun i f =>
  (∑ e, if col e = i then z (row e) f * (dis col w (row e) * w e * dis col w (col e)) else 0)
    + z i f * (dis col w i * 1 * dis col w i)

/-- The normalised dense matrix that a product with an identity matrix forms from an adjacency matrix. -/
def normMat (A : Mat 100 100) : Mat 100 100 := fun i j =>
  (∑ k, (Ideal.rsqrt ((∑ l, A i l) + 1) * A i k)
      * ((if k = j then (1 : EReal) else 0) * Ideal.rsqrt ((∑ l, A k l) + 1)))
    + (if i = j then (1 : EReal) else 0) * Ideal.div 1 ((∑ l, A i l) + 1)

/-- The row sums of the adjacency matrix plus one are the degrees. -/
theorem adj_sum (w : E → EReal) (i : Fin 100) : (∑ l, adj row col w i l) + 1 = deg col w i := by
  unfold adj deg
  rw [edge_total (fun e => col e = i) row w]

/-- A weight that is a nonnegative real. -/
def Fine (x : EReal) : Prop := ∃ r : ℝ, 0 ≤ r ∧ x = (r : EReal)

/-- A nonnegative real weight is not negative. -/
theorem Fine.nonneg {x : EReal} (h : Fine x) : 0 ≤ x := by
  obtain ⟨r, hr, rfl⟩ := h; exact EReal.coe_nonneg.2 hr

/-- A degree is a real number not below one. -/
theorem deg_real {w : E → EReal} (hw : ∀ e, Fine (w e)) (i : Fin 100) :
    ∃ d : ℝ, 1 ≤ d ∧ deg col w i = (d : EReal) := by
  choose r hr hwr using hw
  refine ⟨(∑ e, if col e = i then r e else 0) + 1, ?_, ?_⟩
  · have : 0 ≤ ∑ e, if col e = i then r e else 0 := Finset.sum_nonneg fun e _ => by split <;> simp [hr]
    linarith
  · unfold deg
    rw [EReal.coe_add, coe_sum, EReal.coe_one]
    congr 1
    exact Finset.sum_congr rfl fun e _ => by split <;> simp [hwr]

/-- The inverse root of a degree is a real number. -/
theorem dis_real {w : E → EReal} (hw : ∀ e, Fine (w e)) (i : Fin 100) :
    ∃ d : ℝ, 1 ≤ d ∧ deg col w i = (d : EReal) ∧ dis col w i = (((Real.sqrt d)⁻¹ : ℝ) : EReal) := by
  obtain ⟨d, hd, h⟩ := deg_real col hw i
  refine ⟨d, hd, h, ?_⟩
  rw [dis, h, Ideal.rsqrt_coe, if_neg (by linarith), if_neg (by linarith)]

/-- The inverse root of a degree is not negative. -/
theorem dis_nonneg {w : E → EReal} (hw : ∀ e, Fine (w e)) (i : Fin 100) : 0 ≤ dis col w i := by
  obtain ⟨d, hd, _, h⟩ := dis_real col hw i
  rw [h]; exact EReal.coe_nonneg.2 (by positivity)

/-- One over the degree is the square of its inverse root. -/
theorem dis_sq {w : E → EReal} (hw : ∀ e, Fine (w e)) (i : Fin 100) :
    Ideal.div 1 (deg col w i) = dis col w i * 1 * dis col w i := by
  obtain ⟨d, hd, h1, h2⟩ := dis_real col hw i
  rw [h1, h2, Ideal.div_coe (by linarith), mul_one, one_mul, ← EReal.coe_mul]
  congr 1
  rw [← mul_inv, Real.mul_self_sqrt (by linarith), one_div]

/-- The normalised dense matrix of a graph of nonnegative real weights, applied to features, is the convolution. -/
theorem normMat_mul {m : Nat} {w : E → EReal} (hw : ∀ e, Fine (w e)) (z : Mat 100 m) :
    mul (normMat (adj row col w)) z = gcn row col w z := by
  funext i f
  have hd := dis_nonneg col hw
  have h1 : ∀ j, normMat (adj row col w) i j
      = (∑ e, if col e = i ∧ row e = j then dis col w (row e) * w e * dis col w (col e) else 0)
        + (if i = j then (1 : EReal) else 0) * (dis col w i * 1 * dis col w i) := fun j => by
    unfold normMat
    simp only [adj_sum, dis_sq col hw]
    congr 1
    have : ∀ k, Ideal.rsqrt (deg col w i) * adj row col w i k * ((if k = j then (1 : EReal) else 0) * Ideal.rsqrt (deg col w k))
        = (dis col w i * adj row col w i k * dis col w k) * (if k = j then (1 : EReal) else 0) := fun k => by
      simp only [dis]; rw [mul_comm (if k = j then (1 : EReal) else 0), mul_assoc, mul_assoc, mul_assoc]
    rw [Finset.sum_congr rfl fun k _ => this k, mul_onehot, adj, mul_sum_nonneg, sum_mul_nonneg]
    · refine Finset.sum_congr rfl fun e _ => ?_
      split
      · rename_i h
        rw [h.1, h.2, mul_comm (dis col w i) (w e), mul_comm, mul_assoc]
      · simp
    · intro e _; split
      · exact mul_nonneg (hd i) (hw e).nonneg
      · simp
    · intro e _; split
      · exact (hw e).nonneg
      · simp
  unfold mul gcn
  simp only [h1]
  have hc : ∀ e, 0 ≤ dis col w (row e) * w e * dis col w (col e) := fun e =>
    mul_nonneg (mul_nonneg (hd _) (hw e).nonneg) (hd _)
  have h2 : ∀ j, ((∑ e, if col e = i ∧ row e = j then dis col w (row e) * w e * dis col w (col e) else 0)
        + (if i = j then (1 : EReal) else 0) * (dis col w i * 1 * dis col w i)) * z j f
      = (∑ e, if col e = i ∧ row e = j then dis col w (row e) * w e * dis col w (col e) else 0) * z j f
        + (if i = j then (1 : EReal) else 0) * ((dis col w i * 1 * dis col w i) * z j f) := fun j => by
    rw [EReal.right_distrib_of_nonneg, mul_assoc]
    · exact Finset.sum_nonneg fun e _ => by
        split
        · exact hc e
        · exact le_rfl
    · exact mul_nonneg (by split <;> simp) (mul_nonneg (mul_nonneg (hd i) zero_le_one) (hd i))
  rw [Finset.sum_congr rfl fun j _ => h2 j, Finset.sum_add_distrib, edge_sum (fun e => col e = i) row _ hc, onehot_mul']
  congr 1
  · exact Finset.sum_congr rfl fun e _ => by split <;> simp only [mul_comm]
  · exact mul_comm _ _

/-- Masking the adjacency matrix by a set of nodes is masking the weights of the edges. -/
theorem adj_mask (w : E → EReal) (p : Fin 100 → Prop) [DecidablePred p] (i j : Fin 100) :
    adj row col w i j * (if p i ∧ p j then (1 : EReal) else 0)
      = adj row col (fun e => w e * (if p (row e) ∧ p (col e) then (1 : EReal) else 0)) i j := by
  unfold adj
  by_cases hp : p i ∧ p j
  · rw [if_pos hp, mul_one]
    refine Finset.sum_congr rfl fun e _ => ?_
    split
    · rename_i h; show w e = w e * _; rw [h.1, h.2, if_pos hp.symm, mul_one]
    · rfl
  · rw [if_neg hp, mul_zero]
    refine (Finset.sum_eq_zero fun e _ => ?_).symm
    split
    · rename_i h; show w e * _ = 0; rw [h.1, h.2, if_neg fun h' => hp h'.symm, mul_zero]
    · rfl

/-- A masked weight is still a nonnegative real. -/
theorem fine_mask {x : EReal} (h : Fine x) (p : Prop) [Decidable p] : Fine (x * (if p then (1 : EReal) else 0)) := by
  split
  · rwa [mul_one]
  · exact ⟨0, le_rfl, by simp⟩

/-- The unnormalised sum over the arriving edges is the product with the count matrix. -/
theorem adj_one_mul {m : Nat} (z : Mat 100 m) (i : Fin 100) (f : Fin m) :
    mul (adj row col fun _ => 1) z i f = ∑ e, if col e = i then z (row e) f else 0 := by
  unfold mul adj
  rw [edge_sum (fun e => col e = i) row _ fun _ => zero_le_one]
  simp only [one_mul]

end Cert.Model
-- ==== Proof.KerGraph.lean ====
/-
  What the kernel's graph matrices hold: the identity, the weighted adjacency matrix and the count matrix built from
  one-hot rows over the edges, the two masked copies, and the normalised matrix of each.
-/
module

public import proofs.«01_k».proof.Proof.KerDots
public import proofs.«01_k».proof.Proof.Model

@[expose] public section

noncomputable section

namespace Cert.KerGraph

open Idealize.ShloMosaic Idealize.ShloMosaic.ValueIdx Cert.KernelIdeal Cert.KernelIdeal.Gen Cert.Reads Cert.Model Cert.KerDots
open scoped BigOperators

/-- The entries of a rank-2 array as a matrix. -/
abbrev mat {n m : Nat} (x : FVec Ideal ⟨2, ![n, m]⟩ .f32) : Mat n m := fun i j => x (ix2 i j)

/-- The inverse square root acts entry by entry. -/
theorem rsqrt_read {s : Shape} (x : FVec Ideal s .f32) (i : s.Idx) : rsqrt x i = Ideal.rsqrt (x i) := rfl

/-- The hyperbolic tangent acts entry by entry. -/
theorem tanh_read {s : Shape} (x : FVec Ideal s .f32) (i : s.Idx) : tanh x i = Ideal.tanh (x i) := rfl

/-- The exponential acts entry by entry. -/
theorem exp_read {s : Shape} (x : FVec Ideal s .f32) (i : s.Idx) : exp x i = Ideal.exp (x i) := rfl

/-- The test "row = column" as a matrix of zeros and ones. -/
theorem eye_read {n m : Nat} (hn : n ≤ 2 ^ 31) (hm : m ≤ 2 ^ 31) (h0 : (⟨2, ![n, m]⟩ : Shape).Iotas .tc 32 [0])
    (h1 : (⟨2, ![n, m]⟩ : Shape).Iotas .tc 32 [1]) (h : 1 < 32) (i : Fin n) (j : Fin m) :
    (sitofp .f32 (extui 32 (cmpi .eq (iota .tc ⟨2, ![n, m]⟩ 32 [0] h0) (iota .tc ⟨2, ![n, m]⟩ 32 [1] h1)) h) :
      FVec Ideal ⟨2, ![n, m]⟩ .f32) (ix2 i j) = if i.val = j.val then (1 : EReal) else 0 := by
  rw [test_float]
  have hi := i.isLt
  have hj := j.isLt
  exact if_congr (eq_word _ _ _ (iota_single_apply _ _ _ _ _ _) (iota_single_apply _ _ _ _ _ _) (by show i.val < _; omega) (by show j.val < _; omega)) rfl rfl

/-- The identity matrix. -/
theorem pay2_read (i j : Fin 100) : k0_pay2 (F := Ideal) (ix2 i j) = if i = j then (1 : EReal) else 0 := by
  refine (eye_read (by decide) (by decide) _ _ _ i j).trans (if_congr ?_ rfl rfl)
  exact Fin.val_inj

section Edges

variable (row col : Fin 4000 → Fin 100) (w : Fin 4000 → EReal)
variable (v5 v6 : Vec Ideal S1x4000 .i32) (v7 : Vec Ideal S1x4000 .f32)
variable (h5 : ∀ e, v5 (ix2 (0 : Fin 1) e) = BitVec.ofNat 32 (row e).val) (h6 : ∀ e, v6 (ix2 (0 : Fin 1) e) = BitVec.ofNat 32 (col e).val)
variable (h7 : ∀ e, v7 (ix2 (0 : Fin 1) e) = w e)

include h6 in
/-- The test whether an edge arrives at a node. -/
theorem pay3_read (i : Fin 100) (e : Fin 4000) : k0_pay3 (F := Ideal) v6 (ix2 i e) = 1#1 ↔ col e = i := by
  have hi := i.isLt
  have hc := (col e).isLt
  unfold k0_pay3
  rw [eq_word _ _ _ (a := i.val) (b := (col e).val) (iota_single_apply _ _ _ _ _ _) ((spread_row v6 _ i e).trans (h6 e)) (by omega) (by omega)]
  rw [eq_comm, Fin.val_inj]

include h5 in
/-- One where an edge starts at a node, zero elsewhere. -/
theorem pay4_read (j : Fin 100) (e : Fin 4000) : k0_pay4 (F := Ideal) v5 (ix2 j e) = if row e = j then (1 : EReal) else 0 := by
  have hi := j.isLt
  have hc := (row e).isLt
  unfold k0_pay4
  rw [test_float]
  refine if_congr ?_ rfl rfl
  rw [eq_word _ _ _ (a := j.val) (b := (row e).val) (iota_single_apply _ _ _ _ _ _) ((spread_row v5 _ j e).trans (h5 e)) (by omega) (by omega)]
  rw [eq_comm, Fin.val_inj]

include h5 h6 in
/-- A one-hot product over the edges with the weights of one row vector. -/
theorem part_read (u : FVec Ideal S100x4000 .f32) (c : Fin 4000 → EReal) (hu : ∀ i e, u (ix2 i e) = c e) (z : FVec Ideal S100x4000 .f32)
    (hz : ∀ i e, z (ix2 i e) = 0) (i j : Fin 100) :
    matmul dot_S100x4000_S100x4000_S100x100_1_1_0_0_n_n none (select (k0_pay3 (F := Ideal) v6) u z) (k0_pay4 (F := Ideal) v5)
      (constant S100x100 .f32 0x00000000#32) (ix2 i j) = adj row col c i j := by
  rw [mm_edges]
  unfold adj
  refine Finset.sum_congr rfl fun e _ => ?_
  rw [select_of _ _ _ _ _ (pay3_read col v6 h6 i e), pay4_read row v5 h5, hu, hz]
  by_cases h1 : col e = i <;> by_cases h2 : row e = j <;> simp [h1, h2]

/-- A spread zero reads zero. -/
theorem zeros_read {s : Shape} (i : s.Idx) : broadcast s (Scalar.ofBits (F := Ideal) .f32 0x00000000#32) i = (0 : EReal) :=
  Ideal.ofBits_zero_f32

/-- A spread one reads one. -/
theorem ones_read {s : Shape} (i : s.Idx) : broadcast s (Scalar.ofBits (F := Ideal) .f32 0x3F800000#32) i = (1 : EReal) :=
  Ideal.ofBits_one_f32

include h5 h6 in
/-- The count matrix. -/
theorem pay6_read (i j : Fin 100) : k0_pay6 (F := Ideal) v5 v6 (ix2 i j) = adj row col (fun _ => 1) i j := by
  unfold k0_pay6
  exact part_read row col v5 v6 h5 h6 _ _ (fun _ _ => ones_read _) _ (fun _ _ => zeros_read _) i j

include h5 h6 h7 in
/-- The weighted adjacency matrix: the weights split into three parts, of which the last two vanish. -/
theorem pay5_read (hw : ∀ e, Fine (w e)) (i j : Fin 100) : k0_pay5 (F := Ideal) v5 v6 v7 (ix2 i j) = adj row col w i j := by
  have hs : ∀ e, w e - w e = 0 := fun e => by
    obtain ⟨r, _, hr⟩ := hw e
    rw [hr, ← EReal.coe_sub, sub_self, EReal.coe_zero]
  have h0 : ∀ (c : Fin 4000 → EReal) (_ : ∀ e, c e = 0), adj row col c i j = 0 := fun c hc => by
    unfold adj
    exact Finset.sum_eq_zero fun e _ => by split <;> simp [hc]
  unfold k0_pay5
  simp only [cast_same]
  rw [addf_apply, addf_apply, part_read row col v5 v6 h5 h6 _ w _ _ (fun _ _ => zeros_read _),
    part_read row col v5 v6 h5 h6 _ (fun e => w e - w e) _ _ (fun _ _ => zeros_read _),
    part_read row col v5 v6 h5 h6 _ (fun e => (w e - w e) - (w e - w e)) _ _ (fun _ _ => zeros_read _),
    h0 (fun e => w e - w e) hs, h0 (fun e => (w e - w e) - (w e - w e)) fun e => by rw [hs e, sub_zero], add_zero, add_zero]
  all_goals intro i e; rw [spread_row]; simp only [subf_apply, extf_apply, truncf_apply, h7]

end Edges

section Norm

variable (v0 v1 : IVec S100x100 32) (v4 A : FVec Ideal S100x100 .f32)
variable (h0 : ∀ i j, v0 (ix2 i j) = BitVec.ofNat 32 i.val) (h1 : ∀ i j, v1 (ix2 i j) = BitVec.ofNat 32 j.val)
variable (h4 : ∀ i j, v4 (ix2 i j) = if i = j then (1 : EReal) else 0)

include h4 in
/-- The normalised matrix of an adjacency matrix. -/
theorem pay10_read (i j : Fin 100) : k0_pay10 (F := Ideal) v4 A (k0_pay9 A) (ix2 i j) = normMat (mat A) i j := by
  have hd : ∀ i : Fin 100, addf (shapeCast S100x1 (k0_pay9 A) shapeCasts_S100_S100x1)
      (broadcast S100x1 (Scalar.ofBits (F := Ideal) .f32 0x3F800000#32)) (ix2 i (0 : Fin 1)) = (∑ l, mat A i l) + 1 := fun i => by
    rw [addf_apply, ones_read, cast_column, show k0_pay9 A (ix1 i) = ∑ l, mat A i l from row_sum A _ (.inl rfl) rfl i]
  unfold k0_pay10
  rw [addf_apply, mm dot_S100x100_S100x100_S100x100_1_0_0_1_n_n]
  unfold normMat
  congr 1
  · refine Finset.sum_congr rfl fun k _ => ?_
    rw [mulf_apply, mulf_apply, spread_column, spread_column, h4, rsqrt_read, rsqrt_read, hd, hd]
  · rw [mulf_apply, spread_column, h4, divf_apply, hd, ones_read]

include h0 h1 h4 in
/-- The normalised matrix of the edges inside the first fifty nodes. -/
theorem pay7_read (i j : Fin 100) : k0_pay7 (F := Ideal) v0 v1 v4 A (ix2 i j)
    = normMat (fun i j => mat A i j * (if i.val < 50 ∧ j.val < 50 then (1 : EReal) else 0)) i j := by
  refine (pay10_read v4 (mulf A (sitofp .f32 (extui 32 (andi (cmpi .slt v0 (broadcast S100x100 50#32))
    (cmpi .slt v1 (broadcast S100x100 50#32))) natLt_1_32))) h4 i j).trans ?_
  congr 1
  funext i j
  have hi := i.isLt
  have hj := j.isLt
  show mulf _ _ (ix2 i j) = _
  rw [mulf_apply, test_float]
  congr 1
  refine if_congr ?_ rfl rfl
  rw [andi_one, lt_word _ _ _ (a := i.val) (b := 50) (h0 i j) rfl (by omega) (by omega),
    lt_word _ _ _ (a := j.val) (b := 50) (h1 i j) rfl (by omega) (by omega)]

include h0 h1 h4 in
/-- The normalised matrix of the edges inside the last fifty nodes. -/
theorem pay8_read (i j : Fin 100) : k0_pay8 (F := Ideal) v0 v1 v4 A (ix2 i j)
    = normMat (fun i j => mat A i j * (if 50 ≤ i.val ∧ 50 ≤ j.val then (1 : EReal) else 0)) i j := by
  refine (pay10_read v4 (mulf A (sitofp .f32 (extui 32 (andi (cmpi .sge v0 (broadcast S100x100 50#32))
    (cmpi .sge v1 (broadcast S100x100 50#32))) natLt_1_32))) h4 i j).trans ?_
  congr 1
  funext i j
  have hi := i.isLt
  have hj := j.isLt
  show mulf _ _ (ix2 i j) = _
  rw [mulf_apply, test_float]
  congr 1
  refine if_congr ?_ rfl rfl
  rw [andi_one, ge_word _ _ _ (a := i.val) (b := 50) (h0 i j) rfl (by omega) (by omega),
    ge_word _ _ _ (a := j.val) (b := 50) (h1 i j) rfl (by omega) (by omega)]

end Norm

end Cert.KerGraph
-- ==== Proof.Rank.lean ====
/-
  Ranks and sorted positions.  A rank is the number of entries that come strictly before; the stable sort by descending
  value puts at position `k` the entry of rank `k`; and a strictly increasing list of kept entries counts them.
-/
module

public import Idealize.ShloMosaic.Lib.SortFacts
public import Mathlib.Data.EReal.Basic
public import Mathlib.Data.Fintype.Card
public import Mathlib.Order.Fin.Basic

@[expose] public section

noncomputable section

namespace Cert.Rank

open Idealize.ShloMosaic

variable {n : Nat}

/-- Entry `j` comes before entry `i`: a larger value, or an equal value at an earlier place. -/
def Before (s : Fin n → EReal) (j i : Fin n) : Prop := s i < s j ∨ (s j = s i ∧ j < i)

instance (s : Fin n → EReal) (j i : Fin n) : Decidable (Before s j i) := Classical.propDecidable _

/-- How many entries come before entry `i`. -/
def rank (s : Fin n → EReal) (i : Fin n) : Nat := (Finset.univ.filter fun j => Before s j i).card

/-- No entry comes before itself. -/
theorem before_irrefl (s : Fin n → EReal) (i : Fin n) : ¬ Before s i i := by
  rintro (h | ⟨_, h⟩) <;> exact lt_irrefl _ h

/-- The order is transitive. -/
theorem before_trans (s : Fin n → EReal) {i j k : Fin n} (h1 : Before s i j) (h2 : Before s j k) : Before s i k := by
  rcases h1 with h1 | ⟨e1, l1⟩ <;> rcases h2 with h2 | ⟨e2, l2⟩
  · exact .inl (h2.trans h1)
  · exact .inl (e2 ▸ h1)
  · exact .inl (e1 ▸ h2)
  · exact .inr ⟨e1.trans e2, l1.trans l2⟩

/-- Of two different places one comes before the other. -/
theorem before_total (s : Fin n → EReal) {i j : Fin n} (h : i ≠ j) : Before s i j ∨ Before s j i := by
  rcases lt_trichotomy (s i) (s j) with h1 | h1 | h1
  · exact .inr (.inl h1)
  · rcases lt_or_gt_of_ne h with h2 | h2
    · exact .inl (.inr ⟨h1, h2⟩)
    · exact .inr (.inr ⟨h1.symm, h2⟩)
  · exact .inl (.inl h1)

/-- An entry that comes before another has the smaller rank. -/
theorem rank_lt_of_before (s : Fin n → EReal) {i j : Fin n} (h : Before s i j) : rank s i < rank s j := by
  refine Finset.card_lt_card (Finset.ssubset_iff_of_subset (fun k hk => ?_) |>.2 ⟨i, ?_, ?_⟩)
  · exact Finset.mem_filter.2 ⟨Finset.mem_univ _, before_trans s (Finset.mem_filter.1 hk).2 h⟩
  · exact Finset.mem_filter.2 ⟨Finset.mem_univ _, h⟩
  · exact fun hk => before_irrefl s i (Finset.mem_filter.1 hk).2

/-- Two entries of the same rank are the same entry. -/
theorem rank_injective (s : Fin n → EReal) : Function.Injective (rank s) := fun i j h => by
  by_contra hne
  rcases before_total s hne with hb | hb
  · exact absurd h (rank_lt_of_before s hb).ne
  · exact absurd h (rank_lt_of_before s hb).ne'

/-- Every rank is below the number of entries. -/
theorem rank_lt (s : Fin n → EReal) (i : Fin n) : rank s i < n := by
  have h : (Finset.univ.filter fun j => Before s j i).card < (Finset.univ : Finset (Fin n)).card :=
    Finset.card_lt_card (Finset.ssubset_iff_of_subset (Finset.filter_subset _ _) |>.2
      ⟨i, Finset.mem_univ _, fun hk => before_irrefl s i (Finset.mem_filter.1 hk).2⟩)
  simpa [rank] using h

section Sorted

variable {ι : Type} (before : ι → ι → Bool) (lt : ι → ι → Prop)

/-- Insertion in front of later elements keeps a list sorted by `lt`, `lt` breaking the ties of `before`. -/
theorem pairwise_insert (h1 : ∀ a b, before a b = true → lt a b) (htr : ∀ a b c, lt a b → lt b c → lt a c)
    (a : ι) (l : List ι) (ha : ∀ b ∈ l, before b a = false → lt a b) (hl : l.Pairwise lt) :
    (insertBefore before a l).Pairwise lt := by
  induction l with
  | nil => exact List.pairwise_singleton _ _
  | cons b l ih =>
    rw [List.pairwise_cons] at hl
    unfold insertBefore
    split
    · rename_i hb
      rw [List.pairwise_cons]
      refine ⟨fun c hc => ?_, ih (fun c hc => ha c (List.mem_cons_of_mem _ hc)) hl.2⟩
      rcases List.mem_cons.1 ((perm_insertBefore before a l).mem_iff.1 hc) with rfl | hc
      · exact h1 _ _ hb
      · exact hl.1 c hc
    · rename_i hb
      have hab : lt a b := ha b List.mem_cons_self (by simpa using hb)
      rw [List.pairwise_cons]
      refine ⟨fun c hc => ?_, List.pairwise_cons.2 hl⟩
      rcases List.mem_cons.1 hc with rfl | hc
      · exact hab
      · exact htr _ _ _ hab (hl.1 c hc)

/-- The stable sort of a list whose ties stand in the order `lt` is sorted by `lt`. -/
theorem pairwise_stable (h1 : ∀ a b, before a b = true → lt a b) (htr : ∀ a b c, lt a b → lt b c → lt a c)
    (l : List ι) (hl : l.Pairwise fun a b => before b a = false → lt a b) : (stableSort before l).Pairwise lt := by
  induction l with
  | nil => exact List.Pairwise.nil
  | cons a l ih =>
    rw [List.pairwise_cons] at hl
    exact pairwise_insert before lt h1 htr a _ (fun b hb => hl.1 b ((perm_stableSort before l).mem_iff.1 hb)) (ih hl.2)

end Sorted

/-- The sorted positions are in the order `lt`. -/
theorem sortedFrom_lt (before : Fin n → Fin n → Bool) (lt : Fin n → Fin n → Prop)
    (h1 : ∀ a b, before a b = true → lt a b) (h2 : ∀ a b, a < b → before b a = false → lt a b)
    (htr : ∀ a b c, lt a b → lt b c → lt a c) {k k' : Fin n} (hk : k < k') :
    lt (sortedFrom before k) (sortedFrom before k') := by
  have hp := pairwise_stable before lt h1 htr (List.finRange n)
    ((List.pairwise_lt_finRange n).imp fun h => h2 _ _ h)
  exact List.pairwise_iff_get.1 hp _ _ hk

/-- The entry that the stable descending sort puts at position `k` has rank `k`. -/
theorem rank_sortedFrom (s : Fin n → EReal) (before : Fin n → Fin n → Bool)
    (hb : ∀ a b, before a b = true ↔ s b < s a) (k : Fin n) : rank s (sortedFrom before k) = k.val := by
  have hlt : ∀ {p q : Fin n}, p < q → Before s (sortedFrom before p) (sortedFrom before q) := fun {p q} hpq =>
    sortedFrom_lt before (Before s) (fun a b h => .inl ((hb a b).1 h))
      (fun a b hab h => by
        have hn : ¬ s a < s b := fun h' => by rw [(hb b a).2 h'] at h; exact Bool.noConfusion h
        rcases lt_or_eq_of_le (not_lt.1 hn) with h' | h'
        · exact .inl h'
        · exact .inr ⟨h'.symm, hab⟩)
      (fun a b c => before_trans s) hpq
  have hset : (Finset.univ.filter fun j => Before s j (sortedFrom before k))
      = (Finset.univ.filter fun q : Fin n => q < k).image (sortedFrom before) := by
    ext j
    simp only [Finset.mem_filter, Finset.mem_univ, true_and, Finset.mem_image]
    constructor
    · intro h
      obtain ⟨q, rfl⟩ := sortedFrom_surjective before j
      refine ⟨q, ?_, rfl⟩
      rcases lt_trichotomy q k with h' | h' | h'
      · exact h'
      · exact absurd (h' ▸ h) (before_irrefl s _)
      · exact absurd (before_trans s h (hlt h')) (before_irrefl s _)
    · rintro ⟨q, hq, rfl⟩
      exact hlt hq
  rw [rank, hset, Finset.card_image_of_injective _ (sortedFrom_injective before)]
  rw [show (Finset.univ.filter fun q : Fin n => q < k) = Finset.Iio k by ext; simp]
  simp

/-- Along a strictly increasing list, the number of listed entries up to the `k`-th is `k + 1`. -/
theorem count_listed {m : Nat} (srt : Fin m → Fin n) (hmono : StrictMono srt) (k : Fin m) :
    (Finset.univ.filter fun j => j ≤ srt k ∧ ∃ q, srt q = j).card = k.val + 1 := by
  have hset : (Finset.univ.filter fun j => j ≤ srt k ∧ ∃ q, srt q = j)
      = (Finset.univ.filter fun q : Fin m => q ≤ k).image srt := by
    ext j
    simp only [Finset.mem_filter, Finset.mem_univ, true_and, Finset.mem_image]
    constructor
    · rintro ⟨hj, q, rfl⟩
      exact ⟨q, hmono.le_iff_le.1 hj, rfl⟩
    · rintro ⟨q, hq, rfl⟩
      exact ⟨hmono.monotone hq, q, rfl⟩
  rw [hset, Finset.card_image_of_injective _ hmono.injective]
  rw [show (Finset.univ.filter fun q : Fin m => q ≤ k) = Finset.Iic k by ext; simp]
  simp

end Cert.Rank
-- ==== Proof.KerRank.lean ====
/-
  What the kernel's ranking blocks hold: the rank of each score as a column and as a row of words, and the features of
  the kept nodes scaled by their scores.
-/
module

public import proofs.«01_k».proof.Proof.KerGraph
public import proofs.«01_k».proof.Proof.Rank
public import proofs.«01_k».proof.Proof.Sums

@[expose] public section

noncomputable section

namespace Cert.KerRank

open Idealize.ShloMosaic Idealize.ShloMosaic.ValueIdx Cert.KernelIdeal Cert.KernelIdeal.Gen Cert.Reads Cert.KerDots Cert.KerGraph
open Cert.Rank Cert.Sums
open scoped BigOperators

variable (v0 v1 : IVec S100x100 32) (v4 : FVec Ideal S100x100 .f32)
variable (h0 : ∀ i j, v0 (ix2 i j) = BitVec.ofNat 32 i.val) (h1 : ∀ i j, v1 (ix2 i j) = BitVec.ofNat 32 j.val)
variable (h4 : ∀ i j, v4 (ix2 i j) = if i = j then (1 : EReal) else 0)

include h4 in
/-- A column turned into a row by a product with the identity. -/
theorem turn_read (x : FVec Ideal S100x1 .f32) (j : Fin 100) :
    matmul dot_S1x100_S100x100_S1x100_1_0_0_1_n_n (some .fp32) (k0_pay18 (F := Ideal)) (mulf v4 (broadcastTo S100x100 x broadcasts_S100x1_S100x100))
      (constant S1x100 .f32 0x00000000#32) (ix2 (0 : Fin 1) j) = x (ix2 j (0 : Fin 1)) := by
  rw [mm dot_S1x100_S100x100_S1x100_1_0_0_1_n_n]
  have : ∀ k : Fin 100, k0_pay18 (F := Ideal) (ix2 (0 : Fin 1) k) * mulf v4 (broadcastTo S100x100 x broadcasts_S100x1_S100x100) (ix2 k j)
      = (if k = j then (1 : EReal) else 0) * x (ix2 k (0 : Fin 1)) := fun k => by
    rw [mulf_apply, spread_column, h4]
    unfold k0_pay18
    rw [ones_read, one_mul]
  rw [Finset.sum_congr rfl fun k _ => this k, onehot_mul]

variable (v44 : FVec Ideal S100x100 .f32) (v166 : FVec Ideal S100x20 .f32) (v167 : FVec Ideal S1x20 .f32) (v177 : FVec Ideal S20x1 .f32)
  (v179 : FVec Ideal S1x1 .f32) (v183 : FVec Ideal S20x1 .f32)
variable (s : Fin 100 → EReal) (hs : ∀ i, k0_pay17 (F := Ideal) v44 v166 v167 v177 v179 v183 (ix2 i (0 : Fin 1)) = s i)

include h0 h1 h4 hs in
/-- The rank of each node's score. -/
theorem pay19_read (i : Fin 100) :
    k0_pay19 (F := Ideal) v0 v1 v4 v44 v166 v167 v177 v179 v183 (ix2 i (0 : Fin 1)) = ((rank s i : ℝ) : EReal) := by
  unfold k0_pay19
  rw [cast_column, sum_100_100]
  unfold rank
  rw [← count_eq]
  refine Finset.sum_congr rfl fun j _ => ?_
  have hi := i.isLt
  have hj := j.isLt
  rw [test_float]
  refine if_congr ?_ rfl rfl
  rw [ori_one, andi_one, gt_float, eq_float, spread_column, spread_row, turn_read v4 h4, hs, hs,
    lt_word _ _ _ (a := j.val) (b := i.val) (h1 i j) (h0 i j) (by omega) (by omega)]
  rfl

include h0 h1 h4 hs in
/-- The column of ranks as words. -/
theorem pay20_read (i : Fin 100) :
    k0_pay20 (F := Ideal) v0 v1 v4 v44 v166 v167 v177 v179 v183 (ix2 i (0 : Fin 1)) = BitVec.ofNat 32 (rank s i) := by
  have := rank_lt s i
  unfold k0_pay20
  exact fptosi_nat _ _ (by omega) (pay19_read v0 v1 v4 h0 h1 h4 v44 v166 v167 v177 v179 v183 s hs i)

include h0 h1 h4 hs in
/-- The row of ranks as words. -/
theorem pay21_read (i : Fin 100) :
    k0_pay21 (F := Ideal) v0 v1 v4 v44 v166 v167 v177 v179 v183 (ix2 (0 : Fin 1) i) = BitVec.ofNat 32 (rank s i) := by
  have := rank_lt s i
  unfold k0_pay21
  exact fptosi_nat _ _ (by omega)
    ((turn_read v4 h4 _ i).trans (pay19_read v0 v1 v4 h0 h1 h4 v44 v166 v167 v177 v179 v183 s hs i))

variable (σ : Fin 50 → Fin 100) (hσ : ∀ k, rank s (σ k) = k.val)

include hσ in
/-- The node of rank k is the k-th selected node. -/
theorem rank_iff (i : Fin 100) (k : Fin 50) : rank s i = k.val ↔ i = σ k :=
  ⟨fun h => rank_injective s (h.trans (hσ k).symm), fun h => h ▸ hσ k⟩

include hσ in
/-- The selected nodes are different. -/
theorem kept_injective : Function.Injective σ := fun a b h => Fin.ext (by rw [← hσ a, ← hσ b, h])

include h0 h1 h4 hs hσ in
/-- The selection matrix. -/
theorem pay23_read (k : Fin 50) (i : Fin 100) :
    k0_pay23 (F := Ideal) (k0_pay22 (F := Ideal) v0 v1 v4 v44 v166 v167 v177 v179 v183) (ix2 k i) = if i = σ k then (1 : EReal) else 0 := by
  have := rank_lt s i
  have hk := k.isLt
  unfold k0_pay23 k0_pay22
  rw [test_float]
  refine if_congr ?_ rfl rfl
  rw [eq_word _ _ _ (a := rank s i) (b := k.val)
    ((spread_row _ _ k i).trans (pay21_read v0 v1 v4 h0 h1 h4 v44 v166 v167 v177 v179 v183 s hs i)) (iota_single_apply _ _ _ _ _ _) (by omega) (by omega),
    rank_iff s σ hσ]

variable (v212 : IVec S50x100 32) (hP : ∀ k i, k0_pay23 (F := Ideal) v212 (ix2 k i) = if i = σ k then (1 : EReal) else 0)

include hP in
/-- The features of the kept nodes scaled by their scores. -/
theorem pay24_read (h : FVec Ideal S100x20 .f32) (sc : FVec Ideal S100x1 .f32) (k : Fin 50) (f : Fin 20) :
    k0_pay24 (F := Ideal) h sc v212 (ix2 k f) = h (ix2 (σ k) f) * sc (ix2 (σ k) (0 : Fin 1)) := by
  unfold k0_pay24
  rw [mulf_apply, spread_column, mm dot_S50x100_S100x20_S50x20_1_0_0_1_n_n, mm dot_S50x100_S100x1_S50x1_1_0_0_1_n_n]
  simp only [hP]
  rw [onehot_mul, onehot_mul]

end Cert.KerRank
-- ==== Proof.Cheb.lean ====
/-
  The pooled Chebyshev layer.  `σ` lists the selected nodes; an edge is kept when both its ends are selected, and the kept
  edges live on the places of the list.  The dense matrix over the places and the sum over the kept edges are one operator.
-/
module

public import proofs.«01_k».proof.Proof.Model

@[expose] public section

noncomputable section

namespace Cert.Model

open Idealize.ShloMosaic Cert.Sums
open scoped BigOperators

variable {E : Type} [Fintype E] (row col : E → Fin 100) (σ : Fin 50 → Fin 100)

/-- A place of the list as one of the hundred rows. -/
abbrev up (k : Fin 50) : Fin 100 := k.castLE (by decide)

/-- A selected node. -/
def Kept (i : Fin 100) : Prop := ∃ k, σ k = i

instance (i : Fin 100) : Decidable (Kept σ i) := Classical.propDecidable _

/-- The place of a selected node in the list, and place 0 for the others. -/
def place (i : Fin 100) : Fin 100 := if h : Kept σ i then up h.choose else 0

variable {σ} in
/-- The place of the k-th selected node is k. -/
theorem place_of (hσ : Function.Injective σ) (k : Fin 50) : place σ (σ k) = up k := by
  have h : Kept σ (σ k) := ⟨k, rfl⟩
  rw [place, dif_pos h]
  exact congrArg up (hσ h.choose_spec)

/-- Every place is among the first fifty. -/
theorem place_lt (i : Fin 100) : (place σ i).val < 50 := by
  unfold place
  split
  · rename_i h; exact h.choose.isLt
  · exact Nat.zero_lt_succ _

/-- Two places are equal as nodes only if they are equal. -/
theorem up_inj {a b : Fin 50} : up a = up b ↔ a = b := Fin.castLE_inj

/-- One for a kept edge, zero for the others. -/
def em (e : E) : EReal := if Kept σ (row e) ∧ Kept σ (col e) then 1 else 0

/-- The number of kept edges arriving at a place. -/
def degc (i : Fin 100) : EReal := ∑ e, if place σ (col e) = i then em row col σ e else 0

/-- The inverse square root of a positive degree, and zero where the degree is not positive. -/
def invSqrt (d : EReal) : EReal := if 0 < d then Ideal.rsqrt (if 0 < d then d else 1) else 0

/-- The normalised weight of an edge, negated. -/
def wch (e : E) : EReal :=
  (-invSqrt (degc row col σ (place σ (row e)))) * em row col σ e * invSqrt (degc row col σ (place σ (col e)))

/-- The propagation over the kept edges. -/
def prop {m : Nat} (z : Mat 100 m) : Mat 100 m := fun i f =>
  ∑ e, if place σ (col e) = i then z (place σ (row e)) f * wch row col σ e else 0

/-- The degree of a place from the dense count matrix. -/
def degk (B : Mat 50 50) (a : Fin 50) : EReal := ∑ b, B a b

/-- The dense propagation matrix formed from the count matrix by a product with an identity matrix. -/
def mch (B : Mat 50 50) : Mat 50 50 := fun a b =>
  0 - ∑ k, (invSqrt (degk B a) * B a k) * ((if k = b then (1 : EReal) else 0) * invSqrt (degk B k))

/-- The count matrix over the places. -/
def pooled : Mat 50 50 := fun a b => adj row col (fun _ => 1) (σ a) (σ b)

variable {σ}

/-- An edge seen from the places: the sum over the places of its start picks the place of its start. -/
theorem edge_places (hσ : Function.Injective σ) (e : E) (a : Fin 50) (G : Fin 100 → EReal) :
    (∑ b, if col e = σ a ∧ row e = σ b then G (up b) else 0)
      = if place σ (col e) = up a ∧ Kept σ (row e) ∧ Kept σ (col e) then G (place σ (row e)) else 0 := by
  by_cases hc : Kept σ (col e)
  · obtain ⟨a', ha'⟩ := hc
    by_cases hr : Kept σ (row e)
    · obtain ⟨b', hb'⟩ := hr
      have hk : Kept σ (row e) ∧ Kept σ (col e) := ⟨⟨b', hb'⟩, ⟨a', ha'⟩⟩
      rw [← ha', ← hb'] at hk ⊢
      simp only [place_of hσ, up_inj, hσ.eq_iff, hk, and_true]
      by_cases h : a' = a <;> simp [h]
    · rw [if_neg fun h => hr h.2.1]
      exact Finset.sum_eq_zero fun b _ => if_neg fun h => hr ⟨b, h.2.symm⟩
  · rw [if_neg fun h => hc h.2.2]
    exact Finset.sum_eq_zero fun b _ => if_neg fun h => hc ⟨a, h.1.symm⟩

/-- The degree of a place over the kept edges is its row sum in the count matrix. -/
theorem degc_up (hσ : Function.Injective σ) (a : Fin 50) :
    degc row col σ (up a) = degk (pooled row col σ) a := by
  unfold degc degk pooled adj
  rw [Finset.sum_comm]
  refine Finset.sum_congr rfl fun e _ => ?_
  rw [edge_places row col hσ e a fun _ => 1, em]
  by_cases h : place σ (col e) = up a <;> simp [h]

/-- On the places, the propagation over the kept edges is the product with the dense matrix. -/
theorem prop_up {m : Nat} (hσ : Function.Injective σ) (z : Mat 100 m) (a : Fin 50) (f : Fin m) :
    prop row col σ z (up a) f = ∑ b, mch (pooled row col σ) a b * z (up b) f := by
  have hr : ∀ b, mch (pooled row col σ) a b * z (up b) f
      = ∑ e, if col e = σ a ∧ row e = σ b then
          z (up b) f * ((-invSqrt (degc row col σ (up b))) * 1 * invSqrt (degc row col σ (up a))) else 0 := fun b => by
    unfold mch
    have h1 : ∀ k, invSqrt (degk (pooled row col σ) a) * pooled row col σ a k
          * ((if k = b then (1 : EReal) else 0) * invSqrt (degk (pooled row col σ) k))
        = (invSqrt (degk (pooled row col σ) a) * pooled row col σ a k * invSqrt (degk (pooled row col σ) k))
          * (if k = b then (1 : EReal) else 0) := fun k => by
      rw [mul_comm (if k = b then (1 : EReal) else 0), mul_assoc, mul_assoc, mul_assoc]
    rw [Finset.sum_congr rfl fun k _ => h1 k, mul_onehot, ← degc_up row col hσ, ← degc_up row col hσ]
    generalize invSqrt (degc row col σ (up a)) = p
    generalize invSqrt (degc row col σ (up b)) = q
    generalize z (up b) f = y
    have h2 : (0 - p * pooled row col σ a b * q) * y = pooled row col σ a b * (y * (-q * 1 * p)) := by
      rw [sub_eq_add_neg, zero_add, mul_one, neg_mul, neg_mul, mul_neg, mul_neg]
      congr 1
      rw [mul_comm p, mul_assoc, mul_assoc, mul_comm y (q * p), mul_comm q p]; simp only [mul_assoc]
    rw [h2, pooled, adj, sum_mul_nonneg]
    · exact Finset.sum_congr rfl fun e _ => by split <;> simp
    · intro e _; split <;> simp
  rw [Finset.sum_congr rfl fun b _ => hr b, Finset.sum_comm]
  unfold prop
  refine Finset.sum_congr rfl fun e _ => ?_
  rw [edge_places row col hσ e a fun q =>
    z q f * ((-invSqrt (degc row col σ q)) * 1 * invSqrt (degc row col σ (up a)))]
  unfold wch em
  by_cases h : place σ (col e) = up a
  · by_cases hk : Kept σ (row e) ∧ Kept σ (col e)
    · rw [if_pos h, if_pos hk, if_pos ⟨h, hk⟩, h]
    · rw [if_pos h, if_neg hk, if_neg fun h' => hk h'.2]; simp
  · rw [if_neg h, if_neg fun h' => h h'.1]

/-- No kept edge lives beyond the places. -/
theorem prop_high {m : Nat} (z : Mat 100 m) (i : Fin 100) (hi : 50 ≤ i.val) (f : Fin m) : prop row col σ z i f = 0 := by
  unfold prop
  exact Finset.sum_eq_zero fun e _ => if_neg fun h => by have := place_lt σ (col e); rw [h] at this; omega

end Cert.Model
-- ==== Proof.Net.lean ====
/-
  The whole network over abstract edges: two convolution layers over the two halves of the nodes, a global one, the node
  scores, the assignment by Chebyshev propagation over the kept nodes, the two softmaxes and the pooled output.
-/
module

public import proofs.«01_k».proof.Proof.Cheb

@[expose] public section

noncomputable section

namespace Cert.Model

open Idealize.ShloMosaic
open scoped BigOperators

variable {E : Type} [Fintype E] (row col : E → Fin 100)

/-- The edge weights kept inside the first fifty nodes. -/
def leftW (w : E → EReal) (e : E) : EReal := w e * (if (row e).val < 50 ∧ (col e).val < 50 then (1 : EReal) else 0)

/-- The edge weights kept inside the last fifty nodes. -/
def rightW (w : E → EReal) (e : E) : EReal := w e * (if 50 ≤ (row e).val ∧ 50 ≤ (col e).val then (1 : EReal) else 0)

/-- A convolution with its bias and activation. -/
def feat (c : EReal) (w : E → EReal) {k m : Nat} (z : Mat 100 k) (W : Mat k m) (b : Fin m → EReal) : Mat 100 m := fun i f =>
  leaky c (gcn row col w (mul z W) i f + b f)

/-- A layer: the first fifty nodes convolve over the left edges, the last fifty over the right edges. -/
def layer (c : EReal) (w : E → EReal) {k m : Nat} (z : Mat 100 k) (Wl : Mat k m) (bl : Fin m → EReal) (Wr : Mat k m) (br : Fin m → EReal) :
    Mat 100 m := fun i f =>
  if i.val < 50 then feat row col c (leftW row col w) z Wl bl i f else feat row col c (rightW row col w) z Wr br i f

/-- The sum of the arriving features. -/
def arrive {m : Nat} (z : Mat 100 m) : Mat 100 m := fun i f => ∑ e, if col e = i then z (row e) f else 0

/-- The score of a node. -/
def score (h : Mat 100 20) (Wrel : Mat 20 1) (brel : EReal) (Wroot : Mat 20 1) (i : Fin 100) : EReal :=
  Ideal.tanh (mul (arrive row col h) Wrel i 0 + brel + mul h Wroot i 0)

/-- The largest entry of a row. -/
def rowMax {n m : Nat} (x : Mat n m) (i : Fin n) : EReal :=
  (Finset.univ : Finset (Fin m)).fold max (Ideal.ofBits .f32 0xFF800000#32) fun k => x i k

/-- The softmax of each row. -/
def softmax {n m : Nat} (x : Mat n m) : Mat n m := fun i k =>
  Ideal.div (Ideal.exp (x i k - rowMax x i)) (∑ l, Ideal.exp (x i l - rowMax x i))

variable (σ : Fin 50 → Fin 100)

/-- The second Chebyshev term. -/
def tx2 {m : Nat} (t : EReal) (h : Mat 100 m) : Mat 100 m := fun i f =>
  t * prop row col σ (prop row col σ h) i f - h i f

/-- The Chebyshev convolution over the kept nodes. -/
def cheb (t : EReal) {m k : Nat} (h : Mat 100 m) (W0 W1 W2 : Mat m k) (b : Fin k → EReal) : Mat 100 k := fun i f =>
  mul h W0 i f + mul (prop row col σ h) W1 i f + mul (tx2 row col σ t h) W2 i f + b f

/-- The pooled output from the features, the scores, the kept nodes in both orders and the assignment. -/
def pool (srt : Fin 50 → Fin 100) (h : Mat 100 20) (sc : Fin 100 → EReal) (ass : Mat 100 50) : Mat 50 20 := fun k f =>
  h (σ k) f * sc (σ k) + ∑ q, ass (srt k) q * ∑ i, softmax ass i q * h i f

/-- The slope of the activation. -/
abbrev slope : EReal := Ideal.ofBits .f32 0x3C23D70A#32

/-- The number two. -/
abbrev two : EReal := Ideal.ofBits .f32 0x40000000#32

/-- The features of the nodes and the weights of the network. -/
structure Params where
  x : Mat 100 100
  Wl1 : Mat 100 64
  bl1 : Fin 64 → EReal
  Wr1 : Mat 100 64
  br1 : Fin 64 → EReal
  Wl2 : Mat 64 20
  bl2 : Fin 20 → EReal
  Wr2 : Mat 64 20
  br2 : Fin 20 → EReal
  Wg : Mat 20 20
  bg : Fin 20 → EReal
  Wrel : Mat 20 1
  brel : EReal
  Wroot : Mat 20 1
  W0 : Mat 20 50
  W1 : Mat 20 50
  W2 : Mat 20 50
  bc : Fin 50 → EReal

/-- The features after both layers. -/
def netTwo (w : E → EReal) (P : Params) : Mat 100 20 :=
  layer row col slope w (layer row col slope w P.x P.Wl1 P.bl1 P.Wr1 P.br1) P.Wl2 P.bl2 P.Wr2 P.br2

/-- The features after the global convolution. -/
def netFeat (w : E → EReal) (P : Params) : Mat 100 20 := feat row col slope w (netTwo row col w P) P.Wg P.bg

/-- The node scores. -/
def netScore (w : E → EReal) (P : Params) : Fin 100 → EReal := score row col (netFeat row col w P) P.Wrel P.brel P.Wroot

/-- The assignment to the clusters. -/
def netAss (w : E → EReal) (P : Params) : Mat 100 50 :=
  softmax (cheb row col σ two (netFeat row col w P) P.W0 P.W1 P.W2 P.bc)

/-- The output. -/
def netOut (srt : Fin 50 → Fin 100) (w : E → EReal) (P : Params) : Mat 50 20 :=
  pool σ srt (netFeat row col w P) (netScore row col w P) (netAss row col σ w P)

end Cert.Model
-- ==== Proof.KerCheb.lean ====
/-
  What the kernel's propagation blocks hold: the dense propagation matrix over the kept nodes, and the first Chebyshev term.
-/
module

public import proofs.«01_k».proof.Proof.KerRank
public import proofs.«01_k».proof.Proof.Net

@[expose] public section

noncomputable section

namespace Cert.KerCheb

open Idealize.ShloMosaic Idealize.ShloMosaic.ValueIdx Cert.KernelIdeal Cert.KernelIdeal.Gen Cert.Reads Cert.KerDots Cert.KerGraph
open Cert.Rank Cert.Sums Cert.Model
open scoped BigOperators

variable (row col : Fin 4000 → Fin 100) (σ : Fin 50 → Fin 100) (hσ : Function.Injective σ)
variable (v44 : FVec Ideal S100x100 .f32) (hC : mat v44 = adj row col fun _ => 1)
variable (v207 : IVec S100x1 32) (r : Fin 100 → Nat) (hr : ∀ i, r i < 100) (h207 : ∀ i, v207 (ix2 i (0 : Fin 1)) = BitVec.ofNat 32 (r i))
  (hrσ : ∀ i (k : Fin 50), r i = k.val ↔ i = σ k)
variable (v212 : IVec S50x100 32) (hP : ∀ k i, k0_pay23 (F := Ideal) v212 (ix2 k i) = if i = σ k then (1 : EReal) else 0)

/-- The inverse square root of the positive entries of a column. -/
theorem invSqrt_read {s : Shape} (x : FVec Ideal s .f32) (i : s.Idx) :
    select (cmpf .ogt x (broadcast s (Scalar.ofBits (F := Ideal) .f32 0x00000000#32)))
      (rsqrt (select (cmpf .ogt x (broadcast s (Scalar.ofBits (F := Ideal) .f32 0x00000000#32))) x
        (broadcast s (Scalar.ofBits (F := Ideal) .f32 0x3F800000#32))))
      (broadcast s (Scalar.ofBits (F := Ideal) .f32 0x00000000#32)) i = invSqrt (x i) := by
  have h : cmpf .ogt x (broadcast s (Scalar.ofBits (F := Ideal) .f32 0x00000000#32)) i = 1#1 ↔ 0 < x i :=
    (gt_float _ _ _).trans (by rw [zeros_read])
  rw [select_of _ _ _ _ _ h, rsqrt_read, select_of _ _ _ _ _ h, zeros_read, ones_read]
  rfl

include hC hr h207 hrσ hP in
/-- The propagation matrix. -/
theorem pay25_read (a b : Fin 50) : k0_pay25 (F := Ideal) v44 v207 v212 (ix2 a b) = mch (pooled row col σ) a b := by
  have hB : ∀ a b : Fin 50, matmul dot_S50x100_S100x50_S50x50_1_0_0_1_n_n (some .fp32)
      (matmul dot_S50x100_S100x100_S50x100_1_0_0_1_n_n (some .fp32) (k0_pay23 (F := Ideal) v212) v44 (constant S50x100 .f32 0x00000000#32))
      (sitofp (F := Ideal) .f32 (extui 32 (cmpi .eq (broadcastTo S100x50 v207 broadcasts_S100x1_S100x50) (iota .tc S100x50 32 [1] iota_S100x50_d1_w32)) natLt_1_32))
      (constant S50x50 .f32 0x00000000#32) (ix2 a b) = pooled row col σ a b := fun a b => by
    rw [mm dot_S50x100_S100x50_S50x50_1_0_0_1_n_n]
    have h1 : ∀ j : Fin 100, matmul dot_S50x100_S100x100_S50x100_1_0_0_1_n_n (some .fp32) (k0_pay23 (F := Ideal) v212) v44
        (constant S50x100 .f32 0x00000000#32) (ix2 a j) = v44 (ix2 (σ a) j) := fun j => by
      rw [mm dot_S50x100_S100x100_S50x100_1_0_0_1_n_n]
      simp only [hP]
      rw [onehot_mul]
    have h2 : ∀ j : Fin 100, (sitofp (F := Ideal) .f32 (extui 32 (cmpi .eq (broadcastTo S100x50 v207 broadcasts_S100x1_S100x50)
        (iota .tc S100x50 32 [1] iota_S100x50_d1_w32)) natLt_1_32) : FVec Ideal S100x50 .f32) (ix2 j b) = if j = σ b then (1 : EReal) else 0 := fun j => by
      have := hr j
      have hb := b.isLt
      rw [test_float]
      refine if_congr ?_ rfl rfl
      rw [eq_word _ _ _ (a := r j) (b := b.val) ((spread_column _ _ j b).trans (h207 j)) (iota_single_apply _ _ _ _ _ _) (by omega) (by omega), hrσ]
    simp only [h1, h2]
    rw [mul_onehot]
    exact congrFun (congrFun hC (σ a)) (σ b)
  unfold k0_pay25
  rw [subf_apply, zeros_read, mm dot_S50x50_S50x50_S50x50_1_0_0_1_n_n]
  unfold mch
  congr 1
  refine Finset.sum_congr rfl fun k _ => ?_
  rw [mulf_apply, mulf_apply, spread_column, spread_column, invSqrt_read, invSqrt_read, cast_column, cast_column, sum_50_50, sum_50_50, hB,
    eye_read (by decide) (by decide)]
  simp only [hB, Fin.val_inj]
  rfl

/-- The matrix that puts the places at the first fifty rows. -/
theorem pay26_read (i : Fin 100) (a : Fin 50) : k0_pay26 (F := Ideal) (ix2 i a) = if i.val = a.val then (1 : EReal) else 0 := by
  unfold k0_pay26
  exact eye_read (by decide) (by decide) _ _ _ i a

/-- A propagation known on the places, put at the first fifty rows. -/
theorem expand_read {m : Nat} (z : Mat 100 m) (y : Fin 50 → EReal) (f : Fin m) (hy : ∀ a, y a = prop row col σ z (up a) f) (i : Fin 100) :
    ∑ a : Fin 50, k0_pay26 (F := Ideal) (ix2 i a) * y a = prop row col σ z i f := by
  simp only [pay26_read]
  by_cases hi : i.val < 50
  · have hu : i = up ⟨i.val, hi⟩ := Fin.ext rfl
    have : ∀ a : Fin 50, (if i.val = a.val then (1 : EReal) else 0) = if a = ⟨i.val, hi⟩ then 1 else 0 := fun a =>
      if_congr ⟨fun h => Fin.ext h.symm, fun h => by rw [h]⟩ rfl rfl
    simp only [this]
    rw [onehot_mul, hy]
    exact congrArg (fun i => prop row col σ z i f) hu.symm
  · rw [prop_high row col z i (by omega) f]
    refine Finset.sum_eq_zero fun a _ => ?_
    rw [if_neg (by have := a.isLt; omega), zero_mul]

include hσ hC hr h207 hrσ hP in
/-- The first propagation, on the places. -/
theorem pay27_read (h : FVec Ideal S100x20 .f32) (a : Fin 50) (f : Fin 20) :
    k0_pay27 (F := Ideal) v44 h v207 v212 (ix2 a f) = prop row col σ (mat h) (up a) f := by
  unfold k0_pay27
  rw [mm dot_S50x50_S50x20_S50x20_1_0_0_1_n_n, prop_up row col hσ]
  refine Finset.sum_congr rfl fun b _ => ?_
  rw [pay25_read row col σ v44 hC v207 r hr h207 hrσ v212 hP, mm dot_S50x100_S100x20_S50x20_1_0_0_1_n_n]
  congr 1
  have : ∀ k : Fin 100, (sitofp (F := Ideal) .f32 (extui 32 (cmpi .eq (iota .tc S50x100 32 [0] iota_S50x100_d0_w32)
      (iota .tc S50x100 32 [1] iota_S50x100_d1_w32)) natLt_1_32) : FVec Ideal S50x100 .f32) (ix2 b k) = if k = up b then (1 : EReal) else 0 := fun k => by
    rw [eye_read (by decide) (by decide)]
    exact if_congr ⟨fun h => Fin.ext h.symm, fun h => by rw [h]; rfl⟩ rfl rfl
  simp only [this]
  rw [onehot_mul]

include hσ hC hr h207 hrσ hP in
/-- The first propagation on all rows. -/
theorem pay28_read (h : FVec Ideal S100x20 .f32) (i : Fin 100) (f : Fin 20) :
    k0_pay28 (F := Ideal) v44 h v207 v212 (ix2 i f) = prop row col σ (mat h) i f := by
  unfold k0_pay28
  rw [mm dot_S100x50_S50x20_S100x20_1_0_0_1_n_n]
  exact expand_read row col σ (mat h) _ f (pay27_read row col σ hσ v44 hC v207 r hr h207 hrσ v212 hP h · f) i

end Cert.KerCheb
-- ==== Proof.KerFeatures.lean ====
/-
  What the kernel's feature blocks hold: the two convolution layers, the global convolution and the node scores.
-/
module

public import proofs.«01_k».proof.Proof.KerGraph
public import proofs.«01_k».proof.Proof.Net

@[expose] public section

noncomputable section

namespace Cert.KerFeatures

open Idealize.ShloMosaic Idealize.ShloMosaic.ValueIdx Cert.KernelIdeal Cert.KernelIdeal.Gen Cert.Reads Cert.Model Cert.KerDots Cert.KerGraph
open scoped BigOperators

/-- The entries of a one-row array. -/
abbrev line {m : Nat} (x : FVec Ideal ⟨2, ![1, m]⟩ .f32) : Fin m → EReal := fun f => x (ix2 (0 : Fin 1) f)

/-- The activation at an index. -/
theorem leaky_read {s : Shape} (x : FVec Ideal s .f32) (i : s.Idx) :
    select (cmpf .oge x (broadcast s (Scalar.ofBits (F := Ideal) .f32 0x00000000#32))) x
      (mulf (broadcast s (Scalar.ofBits (F := Ideal) .f32 0x3C23D70A#32)) x) i = leaky slope (x i) := by
  rw [select_of _ _ _ _ (0 ≤ x i) ((ge_float _ _ _).trans (by rw [zeros_read]))]
  rfl

variable (row col : Fin 4000 → Fin 100) (w : Fin 4000 → EReal)

/-- The preactivation of a convolution into 64 features. -/
theorem conv64 {u : Fin 4000 → EReal} (hu : ∀ e, Fine (u e)) (N : FVec Ideal S100x100 .f32) (hN : mat N = normMat (adj row col u))
    (x : FVec Ideal S100x100 .f32) (W : FVec Ideal S100x64 .f32) (b : FVec Ideal S1x64 .f32) (i : Fin 100) (f : Fin 64) :
    addf (matmul dot_S100x100_S100x64_S100x64_1_0_0_1_n_n (some .fp32) N
        (matmul dot_S100x100_S100x64_S100x64_1_0_0_1_n_n none x W (constant S100x64 .f32 0x00000000#32)) (constant S100x64 .f32 0x00000000#32))
      (broadcastTo S100x64 (shapeCast S1x64 b shapeCasts_S1x64_S1x64) broadcasts_S1x64_S100x64) (ix2 i f)
      = gcn row col u (mul (mat x) (mat W)) i f + line b f := by
  rw [addf_apply, mm dot_S100x100_S100x64_S100x64_1_0_0_1_n_n, spread_row, cast_same, ← normMat_mul row col hu, ← hN]
  simp only [mm dot_S100x100_S100x64_S100x64_1_0_0_1_n_n]
  rfl

/-- The preactivation of a convolution from 64 into 20 features. -/
theorem conv20 {u : Fin 4000 → EReal} (hu : ∀ e, Fine (u e)) (N : FVec Ideal S100x100 .f32) (hN : mat N = normMat (adj row col u))
    (x : FVec Ideal S100x64 .f32) (W : FVec Ideal S64x20 .f32) (b : FVec Ideal S1x20 .f32) (i : Fin 100) (f : Fin 20) :
    addf (matmul dot_S100x100_S100x20_S100x20_1_0_0_1_n_n (some .fp32) N
        (matmul dot_S100x64_S64x20_S100x20_1_0_0_1_n_n none x W (constant S100x20 .f32 0x00000000#32)) (constant S100x20 .f32 0x00000000#32))
      (broadcastTo S100x20 (shapeCast S1x20 b shapeCasts_S1x20_S1x20) broadcasts_S1x20_S100x20) (ix2 i f)
      = gcn row col u (mul (mat x) (mat W)) i f + line b f := by
  rw [addf_apply, mm dot_S100x100_S100x20_S100x20_1_0_0_1_n_n, spread_row, cast_same, ← normMat_mul row col hu, ← hN]
  simp only [mm dot_S100x64_S64x20_S100x20_1_0_0_1_n_n]
  rfl

/-- The test "row below fifty", spread over the columns. -/
theorem pay11_read {m : Nat} (h : (⟨2, ![100, 1]⟩ : Shape).Broadcasts ⟨2, ![100, m]⟩) (i : Fin 100) (f : Fin m) :
    broadcastTo ⟨2, ![100, m]⟩ (shapeCast S100x1 (k0_pay11) shapeCasts_S100x1_S100x1) h (ix2 i f) = 1#1 ↔ i.val < 50 := by
  have hi := i.isLt
  rw [spread_column, cast_same]
  unfold k0_pay11
  exact lt_word _ _ _ (a := i.val) (b := 50) (iota_single_apply _ _ _ _ _ _) rfl (by omega) (by omega)

section Layers

variable (NL NR NG : FVec Ideal S100x100 .f32) (hw : ∀ e, Fine (w e))
variable (hL : mat NL = normMat (adj row col (leftW row col w))) (hR : mat NR = normMat (adj row col (rightW row col w)))
  (hG : mat NG = normMat (adj row col w))
variable (x : FVec Ideal S100x100 .f32) (Wl1 : FVec Ideal S100x64 .f32) (bl1 : FVec Ideal S1x64 .f32) (Wr1 : FVec Ideal S100x64 .f32)
  (br1 : FVec Ideal S1x64 .f32) (Wl2 : FVec Ideal S64x20 .f32) (bl2 : FVec Ideal S1x20 .f32) (Wr2 : FVec Ideal S64x20 .f32)
  (br2 : FVec Ideal S1x20 .f32) (Wg : FVec Ideal S20x20 .f32) (bg : FVec Ideal S1x20 .f32)

include hw hL in
/-- The first layer of the left half. -/
theorem pay12_read (i : Fin 100) (f : Fin 64) :
    k0_pay12 (F := Ideal) NL x Wl1 bl1 (ix2 i f) = feat row col slope (leftW row col w) (mat x) (mat Wl1) (line bl1) i f := by
  unfold k0_pay12
  rw [leaky_read, conv64 row col (fun e => fine_mask (hw e) _) NL hL]
  rfl

include hw hR in
/-- The first layer of the right half. -/
theorem pay13_read (i : Fin 100) (f : Fin 64) :
    select (k0_pay14 (F := Ideal) NR x Wr1 br1) (k0_pay13 NR x Wr1 br1)
      (mulf (broadcast S100x64 (Scalar.ofBits (F := Ideal) .f32 0x3C23D70A#32)) (k0_pay13 NR x Wr1 br1)) (ix2 i f)
      = feat row col slope (rightW row col w) (mat x) (mat Wr1) (line br1) i f := by
  unfold k0_pay14
  rw [leaky_read]
  unfold k0_pay13
  rw [conv64 row col (fun e => fine_mask (hw e) _) NR hR]
  rfl

/-- The features after the first layer. -/
abbrev hid : Mat 100 64 := layer row col slope w (mat x) (mat Wl1) (line bl1) (mat Wr1) (line br1)

/-- The features after the second layer. -/
abbrev hid2 : Mat 100 20 := layer row col slope w (hid row col w x Wl1 bl1 Wr1 br1) (mat Wl2) (line bl2) (mat Wr2) (line br2)

include hw hL hR hG in
/-- The global convolution of the second layer's features, before its bias. -/
theorem pay15_read (i : Fin 100) (f : Fin 20) :
    k0_pay15 (F := Ideal) NL NR NG (k0_pay11) (k0_pay12 NL x Wl1 bl1) (k0_pay13 NR x Wr1 br1) (k0_pay14 NR x Wr1 br1) Wl2 bl2 Wr2 br2 Wg (ix2 i f)
      = gcn row col w (mul (hid2 row col w x Wl1 bl1 Wr1 br1 Wl2 bl2 Wr2 br2) (mat Wg)) i f := by
  unfold k0_pay15
  rw [← normMat_mul row col hw, ← hG, mm dot_S100x100_S100x20_S100x20_1_0_0_1_n_n]
  refine Finset.sum_congr rfl fun k _ => ?_
  rw [mm dot_S100x20_S20x20_S100x20_1_0_0_1_n_n]
  congr 1
  refine Finset.sum_congr rfl fun l _ => ?_
  congr 1
  have h1 : mat (select (broadcastTo S100x64 (shapeCast S100x1 (k0_pay11) shapeCasts_S100x1_S100x1) broadcasts_S100x1_S100x64)
      (k0_pay12 NL x Wl1 bl1) (select (k0_pay14 (F := Ideal) NR x Wr1 br1) (k0_pay13 NR x Wr1 br1)
      (mulf (broadcast S100x64 (Scalar.ofBits (F := Ideal) .f32 0x3C23D70A#32)) (k0_pay13 NR x Wr1 br1))))
      = hid row col w x Wl1 bl1 Wr1 br1 := by
    funext a b
    show select _ _ _ (ix2 a b) = _
    rw [select_of _ _ _ _ (a.val < 50) (pay11_read _ a b), pay12_read row col w NL hw hL, pay13_read row col w NR hw hR]
    rfl
  rw [select_of _ _ _ _ (k.val < 50) (pay11_read _ k l), leaky_read, leaky_read,
    conv20 row col (fun e => fine_mask (hw e) _) NL hL, conv20 row col (fun e => fine_mask (hw e) _) NR hR, h1]
  rfl

variable (v166 : FVec Ideal S100x20 .f32) (g : Mat 100 20) (h166 : ∀ i f, v166 (ix2 i f) = g i f)

include h166 in
/-- The last layer, from its product. -/
theorem pay16_read (i : Fin 100) (f : Fin 20) : k0_pay16 (F := Ideal) v166 bg (ix2 i f) = leaky slope (g i f + line bg f) := by
  unfold k0_pay16
  rw [leaky_read, addf_apply, spread_row, cast_same, h166]

/-- The scores. -/
theorem pay17_read (C : FVec Ideal S100x100 .f32) (hC : mat C = adj row col fun _ => 1) (Wrel : FVec Ideal S20x1 .f32)
    (brel : FVec Ideal S1x1 .f32) (Wroot : FVec Ideal S20x1 .f32) (i : Fin 100) :
    k0_pay17 (F := Ideal) C v166 bg Wrel brel Wroot (ix2 i (0 : Fin 1))
      = score row col (mat (k0_pay16 (F := Ideal) v166 bg)) (mat Wrel) (brel (ix2 0 0)) (mat Wroot) i := by
  unfold k0_pay17
  rw [tanh_read, addf_apply, addf_apply, mm dot_S100x20_S20x1_S100x1_1_0_0_1_n_n, mm dot_S100x20_S20x1_S100x1_1_0_0_1_n_n, spread_row, cast_same]
  simp only [mm dot_S100x100_S100x20_S100x20_1_0_0_1_n_n]
  have hA : ∀ k : Fin 20, (∑ l : Fin 100, C (ix2 i l) * k0_pay16 (F := Ideal) v166 bg (ix2 l k))
      = arrive row col (mat (k0_pay16 (F := Ideal) v166 bg)) i k := fun k => by
    refine Eq.trans ?_ (adj_one_mul row col (mat (k0_pay16 (F := Ideal) v166 bg)) i k)
    rw [← hC]
    rfl
  exact congrArg Ideal.tanh (congrArg₂ (· + ·) (congrArg₂ (· + ·) (Finset.sum_congr rfl fun k _ => congrArg (· * _) (hA k)) rfl) rfl)

end Layers

end Cert.KerFeatures
-- ==== Proof.KerTail.lean ====
/-
  What the kernel's last blocks hold: the assignment, the coarse features and the stored output.
-/
module

public import proofs.«01_k».proof.Proof.KerCheb
public import proofs.«01_k».proof.Proof.KerFeatures

@[expose] public section

noncomputable section

namespace Cert.KerTail

open Idealize.ShloMosaic Idealize.ShloMosaic.ValueIdx Cert.KernelIdeal Cert.KernelIdeal.Gen Cert.Reads Cert.KerDots Cert.KerGraph
open Cert.Rank Cert.Sums Cert.Model Cert.KerCheb Cert.KerFeatures
open scoped BigOperators

/-- The kernel's softmax of the rows of an assignment. -/
theorem softmax_read (x : FVec Ideal S100x50 .f32) (i : Fin 100) (k : Fin 50) :
    divf (exp (subf x (broadcastTo S100x50 (shapeCast S100x1 (multiReduction .maximumf [1] S100 x 0xFF800000#32 reduces_S100x50_S100 (.inl rfl) rfl)
        shapeCasts_S100_S100x1) broadcasts_S100x1_S100x50)))
      (broadcastTo S100x50 (shapeCast S100x1 (multiReduction .add [1] S100
        (exp (subf x (broadcastTo S100x50 (shapeCast S100x1 (multiReduction .maximumf [1] S100 x 0xFF800000#32 reduces_S100x50_S100 (.inl rfl) rfl)
        shapeCasts_S100_S100x1) broadcasts_S100x1_S100x50))) 0x00000000#32 reduces_S100x50_S100 (.inl rfl) rfl)
        shapeCasts_S100_S100x1) broadcasts_S100x1_S100x50) (ix2 i k) = softmax (mat x) i k := by
  have h : ∀ k : Fin 50, exp (subf x (broadcastTo S100x50 (shapeCast S100x1
      (multiReduction .maximumf [1] S100 x 0xFF800000#32 reduces_S100x50_S100 (.inl rfl) rfl) shapeCasts_S100_S100x1) broadcasts_S100x1_S100x50)) (ix2 i k)
      = Ideal.exp (mat x i k - rowMax (mat x) i) := fun k => by
    rw [exp_read, subf_apply, spread_column, cast_column, max_100_50]
    rfl
  rw [divf_apply, spread_column, cast_column, sum_100_50]
  simp only [h]
  rfl

section Assignment

variable (row col : Fin 4000 → Fin 100) (σ : Fin 50 → Fin 100) (hσ : Function.Injective σ)
variable (h : FVec Ideal S100x20 .f32) (M : FVec Ideal S50x50 .f32) (hM : ∀ a b, M (ix2 a b) = mch (pooled row col σ) a b)
variable (y : FVec Ideal S50x20 .f32) (hy : ∀ a f, y (ix2 a f) = prop row col σ (mat h) (up a) f)
variable (T : FVec Ideal S100x20 .f32) (hT : ∀ i f, T (ix2 i f) = prop row col σ (mat h) i f)
variable (W0 W1 W2 : FVec Ideal S20x50 .f32) (b : FVec Ideal S1x50 .f32)

include hσ hM hy hT in
/-- The assignment of the nodes to the clusters. -/
theorem pay29_read (i : Fin 100) (k : Fin 50) :
    k0_pay29 (F := Ideal) h M (k0_pay26) y T (constant S50x20 .f32 0x00000000#32) W0 W1 W2 b (ix2 i k)
      = softmax (cheb row col σ two (mat h) (mat W0) (mat W1) (mat W2) (line b)) i k := by
  unfold k0_pay29
  rw [softmax_read]
  refine congrFun (congrFun (congrArg softmax ?_) i) k
  funext i k
  have h2 : ∀ l : Fin 20, matmul dot_S100x50_S50x20_S100x20_1_0_0_1_n_n (some .fp32) (k0_pay26 (F := Ideal))
      (matmul dot_S50x50_S50x20_S50x20_1_0_0_1_n_n (some .fp32) M y (constant S50x20 .f32 0x00000000#32)) (constant S100x20 .f32 0x00000000#32) (ix2 i l)
      = prop row col σ (prop row col σ (mat h)) i l := fun l => by
    rw [mm dot_S100x50_S50x20_S100x20_1_0_0_1_n_n]
    refine expand_read row col σ _ _ l (fun a => ?_) i
    rw [mm dot_S50x50_S50x20_S50x20_1_0_0_1_n_n, prop_up row col hσ]
    exact Finset.sum_congr rfl fun c _ => by rw [hM, hy]
  show addf _ _ (ix2 i k) = _
  rw [addf_apply, addf_apply, addf_apply, spread_row, cast_same, mm dot_S100x20_S20x50_S100x50_1_0_0_1_n_n, mm dot_S100x20_S20x50_S100x50_1_0_0_1_n_n, mm dot_S100x20_S20x50_S100x50_1_0_0_1_n_n]
  refine congrArg (· + _) (congrArg₂ (· + ·) (congrArg₂ (· + ·) rfl ?_) ?_)
  · exact Finset.sum_congr rfl fun l _ => by rw [hT]
  · refine Finset.sum_congr rfl fun l _ => ?_
    rw [subf_apply, mulf_apply, h2]
    rfl

/-- The coarse features: the second softmax of the assignment, transposed, times the features. -/
theorem pay30_read (g : Mat 100 50) (c : FVec Ideal S50x20 .f32)
    (hg : ∀ i k, k0_pay29 (F := Ideal) h M (k0_pay26) y T c W0 W1 W2 b (ix2 i k) = g i k) (q : Fin 50) (f : Fin 20) :
    k0_pay30 (F := Ideal) h M (k0_pay26) y T c W0 W1 W2 b (ix2 q f) = ∑ i, softmax g i q * mat h i f := by
  unfold k0_pay30
  rw [mm_coarse]
  refine Finset.sum_congr rfl fun i _ => ?_
  rw [softmax_read, show mat (k0_pay29 (F := Ideal) h M (k0_pay26) y T c W0 W1 W2 b) = g from funext fun i => funext fun k => hg i k]

end Assignment

section Output

variable (v0 v1 : IVec S100x100 32)
variable (h0 : ∀ i j, v0 (ix2 i j) = BitVec.ofNat 32 i.val) (h1 : ∀ i j, v1 (ix2 i j) = BitVec.ofNat 32 j.val)
variable (v208 : IVec S1x100 32) (r : Fin 100 → Nat) (hr : ∀ i, r i < 100) (h208 : ∀ i, v208 (ix2 (0 : Fin 1) i) = BitVec.ofNat 32 (r i))
variable (σ srt : Fin 50 → Fin 100) (hkept : ∀ i, r i < 50 ↔ ∃ q, srt q = i) (hmono : StrictMono srt)

include hr h208 hkept in
/-- A rank is below fifty exactly when the node is among the sorted ones. -/
theorem below_read (i : Fin 100) : cmpi .slt v208 (broadcast S1x100 50#32) (ix2 (0 : Fin 1) i) = 1#1 ↔ ∃ q, srt q = i := by
  have := hr i
  rw [lt_word _ _ _ (a := r i) (b := 50) (h208 i) rfl (by omega) (by omega), hkept]

include h0 h1 hr h208 hkept in
/-- How many kept nodes there are up to a node. -/
theorem count_read (j : Fin 100) :
    matmul dot_S1x100_S100x100_S1x100_1_0_0_1_n_n (some .fp32) (k0_pay31 (F := Ideal) v208)
      (sitofp (F := Ideal) .f32 (extui 32 (k0_pay32 v0 v1) natLt_1_32)) (constant S1x100 .f32 0x00000000#32) (ix2 (0 : Fin 1) j)
      = (((Finset.univ.filter fun i => i ≤ j ∧ ∃ q, srt q = i).card : ℝ) : EReal) := by
  classical
  have e1 : (Finset.univ.filter fun i => i ≤ j ∧ ∃ q, srt q = i).card
      = (Finset.univ.filter fun i : Fin 100 => i.val ≤ j.val ∧ ∃ q, srt q = i).card := rfl
  rw [mm dot_S1x100_S100x100_S1x100_1_0_0_1_n_n, e1, ← count_eq]
  refine Finset.sum_congr rfl fun i _ => ?_
  have hi := i.isLt
  have hj := j.isLt
  unfold k0_pay31 k0_pay32
  rw [test_float, test_float]
  have a1 := below_read v208 r hr h208 srt hkept i
  have a2 : cmpi .sle v0 v1 (ix2 i j) = 1#1 ↔ i.val ≤ j.val :=
    le_word _ _ _ (a := i.val) (b := j.val) (h0 i j) (h1 i j) (by omega) (by omega)
  by_cases b1 : ∃ q, srt q = i <;> by_cases b2 : i.val ≤ j.val <;> simp [a1, a2, b1, b2]

include h0 h1 hr h208 hkept hmono in
/-- The selection in node order. -/
theorem order_read (k : Fin 50) (i : Fin 100) :
    (sitofp (F := Ideal) .f32 (extui 32 (andi
      (cmpi .eq (broadcastTo S50x100 (subi (fptosi 32 (matmul dot_S1x100_S100x100_S1x100_1_0_0_1_n_n (some .fp32) (k0_pay31 (F := Ideal) v208)
        (sitofp (F := Ideal) .f32 (extui 32 (k0_pay32 v0 v1) natLt_1_32)) (constant S1x100 .f32 0x00000000#32))) (broadcast S1x100 1#32))
        broadcasts_S1x100_S50x100) (iota .tc S50x100 32 [0] iota_S50x100_d0_w32))
      (broadcastTo S50x100 (cmpi .slt v208 (broadcast S1x100 50#32)) broadcasts_S1x100_S50x100)) natLt_1_32) : FVec Ideal S50x100 .f32) (ix2 k i)
      = if i = srt k then (1 : EReal) else 0 := by
  rw [test_float]
  refine if_congr ?_ rfl rfl
  rw [andi_one, spread_row, below_read v208 r hr h208 srt hkept]
  have hk := k.isLt
  have hpos : ∀ q, srt q = i → (cmpi .eq (broadcastTo S50x100 (subi (fptosi 32 (matmul dot_S1x100_S100x100_S1x100_1_0_0_1_n_n (some .fp32)
      (k0_pay31 (F := Ideal) v208) (sitofp (F := Ideal) .f32 (extui 32 (k0_pay32 v0 v1) natLt_1_32)) (constant S1x100 .f32 0x00000000#32)))
      (broadcast S1x100 1#32)) broadcasts_S1x100_S50x100) (iota .tc S50x100 32 [0] iota_S50x100_d0_w32) (ix2 k i) = 1#1 ↔ q.val = k.val) := fun q hq => by
    have hq' := q.isLt
    refine eq_word _ _ _ (a := q.val) (b := k.val) ?_ (iota_single_apply _ _ _ _ _ _) (by omega) (by omega)
    rw [spread_row]
    show IntOp.subi (fptosi 32 _ (ix2 (0 : Fin 1) i)) 1#32 = _
    rw [fptosi_nat (k := q.val + 1) _ _ (by omega) ?_]
    · show BitVec.ofNat 32 (q.val + 1) - 1#32 = _
      rw [BitVec.ofNat_add]
      exact BitVec.add_sub_cancel _ _
    · rw [count_read v0 v1 h0 h1 v208 r hr h208 srt hkept, ← hq]
      exact congrArg (fun n : Nat => ((n : ℝ) : EReal)) (by convert count_listed srt hmono q)
  constructor
  · rintro ⟨ha, q, hq⟩
    rw [← hq, Fin.ext ((hpos q hq).1 ha)]
  · rintro rfl
    exact ⟨(hpos k rfl).2 rfl, k, rfl⟩

include h0 h1 hr h208 hkept hmono in
/-- The stored output. -/
theorem pay1_read (X : FVec Ideal S50x20 .f32) (A : FVec Ideal S100x50 .f32) (H : FVec Ideal S50x20 .f32) (k : Fin 50) (f : Fin 20) :
    k0_pay1 (F := Ideal) v208 X A H (k0_pay31 v208) (k0_pay32 v0 v1) (ix2 k f) = X (ix2 k f) + ∑ q : Fin 50, A (ix2 (srt k) q) * H (ix2 q f) := by
  unfold k0_pay1
  rw [addf_apply, mm dot_S50x50_S50x20_S50x20_1_0_0_1_n_n]
  congr 1
  refine Finset.sum_congr rfl fun q _ => ?_
  rw [mm dot_S50x100_S100x50_S50x50_1_0_0_1_n_n]
  simp only [order_read v0 v1 h0 h1 v208 r hr h208 srt hkept hmono]
  rw [onehot_mul]

end Output

end Cert.KerTail
-- ==== Proof.KerBody.lean ====
/-
  What the kernel's body stores, as the network's output.
-/
module

public import proofs.«01_k».proof.Proof.KerTail

@[expose] public section

noncomputable section

namespace Cert.KerBody

open Idealize.ShloMosaic Idealize.ShloMosaic.ValueIdx Cert.KernelIdeal Cert.KernelIdeal.Gen Cert.Reads Cert.KerDots Cert.KerGraph
open Cert.Rank Cert.Sums Cert.Model Cert.KerRank Cert.KerCheb Cert.KerFeatures Cert.KerTail
open scoped BigOperators

variable (row col : Fin 4000 → Fin 100) (w : Fin 4000 → EReal)

/-- The network's parameters read off the kernel's arrays. -/
abbrev par (x : FVec Ideal S100x100 .f32) (Wl1 : FVec Ideal S100x64 .f32) (bl1 : FVec Ideal S1x64 .f32) (Wr1 : FVec Ideal S100x64 .f32)
    (br1 : FVec Ideal S1x64 .f32) (Wl2 : FVec Ideal S64x20 .f32) (bl2 : FVec Ideal S1x20 .f32) (Wr2 : FVec Ideal S64x20 .f32)
    (br2 : FVec Ideal S1x20 .f32) (Wg : FVec Ideal S20x20 .f32) (bg : FVec Ideal S1x20 .f32) (Wrel : FVec Ideal S20x1 .f32)
    (brel : FVec Ideal S1x1 .f32) (Wroot : FVec Ideal S20x1 .f32) (W0 W1 W2 : FVec Ideal S20x50 .f32) (bc : FVec Ideal S1x50 .f32) : Params where
  x := mat x
  Wl1 := mat Wl1
  bl1 := line bl1
  Wr1 := mat Wr1
  br1 := line br1
  Wl2 := mat Wl2
  bl2 := line bl2
  Wr2 := mat Wr2
  br2 := line br2
  Wg := mat Wg
  bg := line bg
  Wrel := mat Wrel
  brel := brel (ix2 0 0)
  Wroot := mat Wroot
  W0 := mat W0
  W1 := mat W1
  W2 := mat W2
  bc := line bc

/-- The stored output, from the named values of the body. -/
theorem store_read (x : FVec Ideal S100x100 .f32) (Wl1 : FVec Ideal S100x64 .f32) (bl1 : FVec Ideal S1x64 .f32) (Wr1 : FVec Ideal S100x64 .f32)
    (br1 : FVec Ideal S1x64 .f32) (Wl2 : FVec Ideal S64x20 .f32) (bl2 : FVec Ideal S1x20 .f32) (Wr2 : FVec Ideal S64x20 .f32)
    (br2 : FVec Ideal S1x20 .f32) (Wg : FVec Ideal S20x20 .f32) (bg : FVec Ideal S1x20 .f32) (Wrel : FVec Ideal S20x1 .f32)
    (brel : FVec Ideal S1x1 .f32) (Wroot : FVec Ideal S20x1 .f32) (W0 W1 W2 : FVec Ideal S20x50 .f32) (bc : FVec Ideal S1x50 .f32)
    (v5 v6 : Vec Ideal S1x4000 .i32) (v7 : Vec Ideal S1x4000 .f32)
    (h5 : ∀ e, v5 (ix2 (0 : Fin 1) e) = BitVec.ofNat 32 (row e).val) (h6 : ∀ e, v6 (ix2 (0 : Fin 1) e) = BitVec.ofNat 32 (col e).val)
    (h7 : ∀ e, v7 (ix2 (0 : Fin 1) e) = w e) (hw : ∀ e, Fine (w e))
    (v0 v1 : IVec S100x100 32) (v4 v43 v44 v74 v90 v105 : FVec Ideal S100x100 .f32) (v166 v175 : FVec Ideal S100x20 .f32)
    (v186 : FVec Ideal S100x1 .f32) (v207 : IVec S100x1 32) (v208 : IVec S1x100 32) (v212 : IVec S50x100 32)
    (v245 : FVec Ideal S50x50 .f32) (v257 : FVec Ideal S50x20 .f32) (v258 : FVec Ideal S100x20 .f32)
    (e0 : v0 = iota .tc S100x100 32 [0] iota_S100x100_d0_w32) (e1 : v1 = iota .tc S100x100 32 [1] iota_S100x100_d1_w32)
    (e4 : v4 = k0_pay2) (e43 : v43 = k0_pay5 v5 v6 v7) (e44 : v44 = k0_pay6 v5 v6) (e74 : v74 = k0_pay7 v0 v1 v4 v43)
    (e90 : v90 = k0_pay8 v0 v1 v4 v43) (e105 : v105 = k0_pay10 v4 v43 (k0_pay9 v43))
    (e166 : v166 = k0_pay15 v74 v90 v105 (k0_pay11) (k0_pay12 v74 x Wl1 bl1) (k0_pay13 v90 x Wr1 br1) (k0_pay14 v90 x Wr1 br1) Wl2 bl2 Wr2 br2 Wg)
    (e175 : v175 = k0_pay16 v166 bg) (e186 : v186 = k0_pay17 v44 v166 bg Wrel brel Wroot)
    (e207 : v207 = k0_pay20 v0 v1 v4 v44 v166 bg Wrel brel Wroot) (e208 : v208 = k0_pay21 v0 v1 v4 v44 v166 bg Wrel brel Wroot)
    (e212 : v212 = k0_pay22 v0 v1 v4 v44 v166 bg Wrel brel Wroot) (e245 : v245 = k0_pay25 v44 v207 v212)
    (e257 : v257 = k0_pay27 v44 v175 v207 v212) (e258 : v258 = k0_pay28 v44 v175 v207 v212)
    (σ srt : Fin 50 → Fin 100)
    (hσ : ∀ k, rank (netScore row col w (par x Wl1 bl1 Wr1 br1 Wl2 bl2 Wr2 br2 Wg bg Wrel brel Wroot W0 W1 W2 bc)) (σ k) = k.val)
    (hmono : StrictMono srt) (hsrt : ∀ i, (∃ q, srt q = i) ↔ ∃ q, σ q = i) (k : Fin 50) (f : Fin 20) :
    k0_pay1 (F := Ideal) v208 (k0_pay24 v175 v186 v212)
      (k0_pay29 v175 v245 (k0_pay26) v257 v258 (constant S50x20 .f32 0x00000000#32) W0 W1 W2 bc)
      (k0_pay30 v175 v245 (k0_pay26) v257 v258 (constant S50x20 .f32 0x00000000#32) W0 W1 W2 bc)
      (k0_pay31 v208) (k0_pay32 v0 v1) (ix2 k f)
      = netOut row col σ srt w (par x Wl1 bl1 Wr1 br1 Wl2 bl2 Wr2 br2 Wg bg Wrel brel Wroot W0 W1 W2 bc) k f := by
  generalize hP : par x Wl1 bl1 Wr1 br1 Wl2 bl2 Wr2 br2 Wg bg Wrel brel Wroot W0 W1 W2 bc = P at hσ ⊢
  have h0 : ∀ i j, v0 (ix2 i j) = BitVec.ofNat 32 i.val := fun i j => by rw [e0]; exact iota_single_apply _ _ _ _ _ _
  have h1 : ∀ i j, v1 (ix2 i j) = BitVec.ofNat 32 j.val := fun i j => by rw [e1]; exact iota_single_apply _ _ _ _ _ _
  have h4 : ∀ i j, v4 (ix2 i j) = if i = j then (1 : EReal) else 0 := fun i j => by rw [e4]; exact pay2_read i j
  have h43 : mat v43 = adj row col w := by
    funext i j
    rw [e43]
    exact pay5_read row col w v5 v6 v7 h5 h6 h7 hw i j
  have h44 : mat v44 = adj row col fun _ => 1 := by
    funext i j
    rw [e44]
    exact pay6_read row col v5 v6 h5 h6 i j
  have h74 : mat v74 = normMat (adj row col (leftW row col w)) := by
    funext i j
    rw [e74]
    refine (pay7_read v0 v1 v4 v43 h0 h1 h4 i j).trans (congrFun (congrFun (congrArg normMat ?_) i) j)
    funext a b
    rw [h43]
    exact adj_mask row col w (fun i => i.val < 50) a b
  have h90 : mat v90 = normMat (adj row col (rightW row col w)) := by
    funext i j
    rw [e90]
    refine (pay8_read v0 v1 v4 v43 h0 h1 h4 i j).trans (congrFun (congrFun (congrArg normMat ?_) i) j)
    funext a b
    rw [h43]
    exact adj_mask row col w (fun i => 50 ≤ i.val) a b
  have h105 : mat v105 = normMat (adj row col w) := by
    funext i j
    rw [e105, ← h43]
    exact pay10_read v4 v43 h4 i j
  have h166 : ∀ i f, v166 (ix2 i f) = gcn row col w (mul (netTwo row col w P) P.Wg) i f := fun i f => by
    rw [e166, ← hP]
    exact pay15_read row col w v74 v90 v105 hw h74 h90 h105 x Wl1 bl1 Wr1 br1 Wl2 bl2 Wr2 br2 Wg i f
  have h175 : mat v175 = netFeat row col w P := by
    funext i f
    rw [e175]
    refine (pay16_read bg v166 _ h166 i f).trans ?_
    rw [← hP]
    rfl
  have h186 : ∀ i, k0_pay17 (F := Ideal) v44 v166 bg Wrel brel Wroot (ix2 i (0 : Fin 1)) = netScore row col w P i := fun i => by
    rw [pay17_read row col bg v166 v44 h44, ← e175, h175, ← hP]
    rfl
  have hr : ∀ i, rank (netScore row col w P) i < 100 := rank_lt _
  have hinj := kept_injective _ σ hσ
  have h207 : ∀ i, v207 (ix2 i (0 : Fin 1)) = BitVec.ofNat 32 (rank (netScore row col w P) i) := fun i => by
    rw [e207]
    exact pay20_read v0 v1 v4 h0 h1 h4 v44 v166 bg Wrel brel Wroot _ h186 i
  have h208 : ∀ i, v208 (ix2 (0 : Fin 1) i) = BitVec.ofNat 32 (rank (netScore row col w P) i) := fun i => by
    rw [e208]
    exact pay21_read v0 v1 v4 h0 h1 h4 v44 v166 bg Wrel brel Wroot _ h186 i
  have h212 : ∀ k i, k0_pay23 (F := Ideal) v212 (ix2 k i) = if i = σ k then (1 : EReal) else 0 := fun k i => by
    rw [e212]
    exact pay23_read v0 v1 v4 h0 h1 h4 v44 v166 bg Wrel brel Wroot _ h186 σ hσ k i
  have hrσ : ∀ i (k : Fin 50), rank (netScore row col w P) i = k.val ↔ i = σ k := rank_iff _ σ hσ
  have h245 : ∀ a b, v245 (ix2 a b) = mch (pooled row col σ) a b := fun a b => by
    rw [e245]
    exact pay25_read row col σ v44 h44 v207 _ hr h207 hrσ v212 h212 a b
  have h257 : ∀ a f, v257 (ix2 a f) = prop row col σ (mat v175) (up a) f := fun a f => by
    rw [e257]
    exact pay27_read row col σ hinj v44 h44 v207 _ hr h207 hrσ v212 h212 v175 a f
  have h258 : ∀ i f, v258 (ix2 i f) = prop row col σ (mat v175) i f := fun i f => by
    rw [e258]
    exact pay28_read row col σ hinj v44 h44 v207 _ hr h207 hrσ v212 h212 v175 i f
  have hass : ∀ i q, k0_pay29 (F := Ideal) v175 v245 (k0_pay26) v257 v258 (constant S50x20 .f32 0x00000000#32) W0 W1 W2 bc (ix2 i q)
      = netAss row col σ w P i q := fun i q => by
    rw [pay29_read row col σ hinj v175 v245 h245 v257 h257 v258 h258 W0 W1 W2 bc i q, h175, ← hP]
    rfl
  have hkept : ∀ i, rank (netScore row col w P) i < 50 ↔ ∃ q, srt q = i := fun i => by
    rw [hsrt]
    exact ⟨fun h => ⟨⟨_, h⟩, ((hrσ i ⟨_, h⟩).1 rfl).symm⟩, fun ⟨q, hq⟩ => by rw [← hq, hσ]; exact q.isLt⟩
  rw [pay1_read v0 v1 h0 h1 v208 _ hr h208 srt hkept hmono, pay24_read σ v212 h212]
  refine congrArg₂ (· + ·) (congrArg₂ (· * ·) (congrFun (congrFun h175 _) _) ?_) (Finset.sum_congr rfl fun q _ => congrArg₂ (· * ·) (hass _ _) ?_)
  · rw [e186]
    exact h186 _
  · rw [pay30_read v175 v245 v257 v258 W0 W1 W2 bc _ _ hass, h175]

end Cert.KerBody
-- ==== Proof.Par.lean ====
/-
  The network's parameters read off the argument arrays.
-/
module

public import proofs.«01_k».proof.Proof.Net
public import proofs.«01_k».proof.Proof.Reads

@[expose] public section

noncomputable section

namespace Cert.Par

open Idealize.ShloMosaic Idealize.ShloMosaic.ValueIdx Cert.Model

/-- The parameters of the network from the arrays of the features, the weights and the biases. -/
def parOf (x : FVec Ideal ⟨2, ![100, 100]⟩ .f32) (Wl1 : FVec Ideal ⟨2, ![100, 64]⟩ .f32) (bl1 : FVec Ideal ⟨1, ![64]⟩ .f32)
    (Wr1 : FVec Ideal ⟨2, ![100, 64]⟩ .f32) (br1 : FVec Ideal ⟨1, ![64]⟩ .f32) (Wl2 : FVec Ideal ⟨2, ![64, 20]⟩ .f32)
    (bl2 : FVec Ideal ⟨1, ![20]⟩ .f32) (Wr2 : FVec Ideal ⟨2, ![64, 20]⟩ .f32) (br2 : FVec Ideal ⟨1, ![20]⟩ .f32)
    (Wg : FVec Ideal ⟨2, ![20, 20]⟩ .f32) (bg : FVec Ideal ⟨1, ![20]⟩ .f32) (Wrel : FVec Ideal ⟨2, ![20, 1]⟩ .f32)
    (brel : FVec Ideal ⟨1, ![1]⟩ .f32) (Wroot : FVec Ideal ⟨2, ![20, 1]⟩ .f32) (W0 W1 W2 : FVec Ideal ⟨2, ![20, 50]⟩ .f32)
    (bc : FVec Ideal ⟨1, ![50]⟩ .f32) : Params where
  x := fun i j => x (ix2 i j)
  Wl1 := fun i j => Wl1 (ix2 i j)
  bl1 := fun j => bl1 (ix1 j)
  Wr1 := fun i j => Wr1 (ix2 i j)
  br1 := fun j => br1 (ix1 j)
  Wl2 := fun i j => Wl2 (ix2 i j)
  bl2 := fun j => bl2 (ix1 j)
  Wr2 := fun i j => Wr2 (ix2 i j)
  br2 := fun j => br2 (ix1 j)
  Wg := fun i j => Wg (ix2 i j)
  bg := fun j => bg (ix1 j)
  Wrel := fun i j => Wrel (ix2 i j)
  brel := brel (ix1 0)
  Wroot := fun i j => Wroot (ix2 i j)
  W0 := fun i j => W0 (ix2 i j)
  W1 := fun i j => W1 (ix2 i j)
  W2 := fun i j => W2 (ix2 i j)
  bc := fun j => bc (ix1 j)

end Cert.Par
-- ==== Proof.KerRun.lean ====
/-
  The kernel's result array as the network's output of the argument arrays.
-/
module

public import proofs.«01_k».proof.Proof.Gen.KernelIdeal.Value
public import proofs.«01_k».proof.Proof.KerBody
public import proofs.«01_k».proof.Proof.Par

@[expose] public section

noncomputable section

namespace Cert.KerRun

open Idealize.ShloMosaic Idealize.ShloMosaic.ValueIdx Idealize.ShloMosaic.TcCoe Idealize.SL.Sem
open Cert.KernelIdeal Cert.KernelIdeal.Gen Cert.KernelIdeal.Value Cert.Reads
open Cert.Rank Cert.Model Cert.KerBody Cert.Par

/-- Two zero offsets. -/
theorem hz : (![0, 0] : Fin 2 → Nat) = fun _ => 0 := funext fun a => by fin_cases a <;> rfl

section Body

variable (x0 : Vec Ideal S2x4000 .i32) (x1 : Vec Ideal S1x4000 .f32) (x2 : Vec Ideal S100x100 .f32) (x3 : Vec Ideal S100x64 .f32) (x4 : Vec Ideal S1x64 .f32) (x5 : Vec Ideal S100x64 .f32) (x6 : Vec Ideal S1x64 .f32) (x7 : Vec Ideal S64x20 .f32) (x8 : Vec Ideal S1x20 .f32) (x9 : Vec Ideal S64x20 .f32) (x10 : Vec Ideal S1x20 .f32) (x11 : Vec Ideal S20x20 .f32) (x12 : Vec Ideal S1x20 .f32) (x13 : Vec Ideal S20x1 .f32) (x14 : Vec Ideal S1x1 .f32) (x15 : Vec Ideal S20x1 .f32) (x16 : Vec Ideal S20x50 .f32) (x17 : Vec Ideal S20x50 .f32) (x18 : Vec Ideal S20x50 .f32) (x19 : Vec Ideal S1x50 .f32)

/-- A load of the whole of a block reads the block. -/
theorem par_loads : par (View.ld x2 r0_3) (View.ld x3 r0_4) (View.ld x4 r0_5) (View.ld x5 r0_4) (View.ld x6 r0_5) (View.ld x7 r0_6) (View.ld x8 r0_7) (View.ld x9 r0_6) (View.ld x10 r0_7) (View.ld x11 r0_8) (View.ld x12 r0_7) (View.ld x13 r0_9) (View.ld x14 r0_10) (View.ld x15 r0_9) (View.ld x16 r0_11) (View.ld x17 r0_11) (View.ld x18 r0_11) (View.ld x19 r0_12)
    = par x2 x3 x4 x5 x6 x7 x8 x9 x10 x11 x12 x13 x14 x15 x16 x17 x18 x19 := by
  simp only [r0_3, r0_4, r0_5, r0_6, r0_7, r0_8, r0_9, r0_10, r0_11, r0_12]
  repeat rw [View.ld_unit_zero hz]

variable (row col : Fin 4000 → Fin 100) (w : Fin 4000 → EReal)
variable (h5 : ∀ e, x0 (ix2 (0 : Fin 2) e) = BitVec.ofNat 32 (row e).val) (h6 : ∀ e, x0 (ix2 (1 : Fin 2) e) = BitVec.ofNat 32 (col e).val)
  (h7 : ∀ e, x1 (ix2 (0 : Fin 1) e) = w e) (hw : ∀ e, Fine (w e)) (σ srt : Fin 50 → Fin 100)
  (hσ : ∀ k, rank (netScore row col w (par x2 x3 x4 x5 x6 x7 x8 x9 x10 x11 x12 x13 x14 x15 x16 x17 x18 x19)) (σ k) = k.val)
  (hmono : StrictMono srt) (hsrt : ∀ i, (∃ q, srt q = i) ↔ ∃ q, σ q = i)

/-- The two loads of the edge list read its two rows. -/
theorem load_row (e : Fin 4000) : (View.ld x0 r0_0 : Vec Ideal S1x4000 .i32) (ix2 (0 : Fin 1) e) = x0 (ix2 (0 : Fin 2) e) :=
  congrArg x0 (funext fun a => Fin.ext (by match a with | ⟨0, _⟩ => rfl | ⟨1, _⟩ => show 0 + 1 * e.val = e.val; omega))

/-- The second load of the edge list reads its second row. -/
theorem load_col (e : Fin 4000) : (View.ld x0 r0_1 : Vec Ideal S1x4000 .i32) (ix2 (0 : Fin 1) e) = x0 (ix2 (1 : Fin 2) e) :=
  congrArg x0 (funext fun a => Fin.ext (by match a with | ⟨0, _⟩ => rfl | ⟨1, _⟩ => show 0 + 1 * e.val = e.val; omega))

include h5 h6 h7 hw hσ hmono hsrt in
/-- What the body stores, from the blocks of its operands. -/
theorem out_read (k : Fin 50) (f : Fin 20) : out0_20 (F := Ideal) x0 x1 x2 x3 x4 x5 x6 x7 x8 x9 x10 x11 x12 x13 x14 x15 x16 x17 x18 x19 (ix2 k f)
    = netOut row col σ srt w (par x2 x3 x4 x5 x6 x7 x8 x9 x10 x11 x12 x13 x14 x15 x16 x17 x18 x19) k f := by
  have hp := par_loads x2 x3 x4 x5 x6 x7 x8 x9 x10 x11 x12 x13 x14 x15 x16 x17 x18 x19
  unfold out0_20
  rw [View.canon_unit_zero hz, ← hp]
  rw [← hp] at hσ
  exact store_read row col w (View.ld x2 r0_3) (View.ld x3 r0_4) (View.ld x4 r0_5) (View.ld x5 r0_4) (View.ld x6 r0_5) (View.ld x7 r0_6) (View.ld x8 r0_7) (View.ld x9 r0_6) (View.ld x10 r0_7) (View.ld x11 r0_8) (View.ld x12 r0_7) (View.ld x13 r0_9) (View.ld x14 r0_10) (View.ld x15 r0_9) (View.ld x16 r0_11) (View.ld x17 r0_11) (View.ld x18 r0_11) (View.ld x19 r0_12)
    (View.ld x0 r0_0) (View.ld x0 r0_1) (View.ld x1 r0_2) (fun e => (load_row x0 e).trans (h5 e)) (fun e => (load_col x0 e).trans (h6 e))
    (fun e => (congrFun (View.ld_unit_zero hz _ x1) _).trans (h7 e)) hw
    (k0_pay33 x0 x1 x2 x3 x4 x5 x6 x7 x8 x9 x10 x11 x12 x13 x14 x15 x16 x17 x18 x19) (k0_pay34 x0 x1 x2 x3 x4 x5 x6 x7 x8 x9 x10 x11 x12 x13 x14 x15 x16 x17 x18 x19) (k0_pay35 x0 x1 x2 x3 x4 x5 x6 x7 x8 x9 x10 x11 x12 x13 x14 x15 x16 x17 x18 x19) (k0_pay36 x0 x1 x2 x3 x4 x5 x6 x7 x8 x9 x10 x11 x12 x13 x14 x15 x16 x17 x18 x19) (k0_pay37 x0 x1 x2 x3 x4 x5 x6 x7 x8 x9 x10 x11 x12 x13 x14 x15 x16 x17 x18 x19) (k0_pay38 x0 x1 x2 x3 x4 x5 x6 x7 x8 x9 x10 x11 x12 x13 x14 x15 x16 x17 x18 x19) (k0_pay39 x0 x1 x2 x3 x4 x5 x6 x7 x8 x9 x10 x11 x12 x13 x14 x15 x16 x17 x18 x19)
    (k0_pay10 (k0_pay35 x0 x1 x2 x3 x4 x5 x6 x7 x8 x9 x10 x11 x12 x13 x14 x15 x16 x17 x18 x19) (k0_pay36 x0 x1 x2 x3 x4 x5 x6 x7 x8 x9 x10 x11 x12 x13 x14 x15 x16 x17 x18 x19) (k0_pay9 (k0_pay36 x0 x1 x2 x3 x4 x5 x6 x7 x8 x9 x10 x11 x12 x13 x14 x15 x16 x17 x18 x19))) (k0_pay40 x0 x1 x2 x3 x4 x5 x6 x7 x8 x9 x10 x11 x12 x13 x14 x15 x16 x17 x18 x19) (k0_pay41 x0 x1 x2 x3 x4 x5 x6 x7 x8 x9 x10 x11 x12 x13 x14 x15 x16 x17 x18 x19)
    (k0_pay17 (k0_pay37 x0 x1 x2 x3 x4 x5 x6 x7 x8 x9 x10 x11 x12 x13 x14 x15 x16 x17 x18 x19) (k0_pay40 x0 x1 x2 x3 x4 x5 x6 x7 x8 x9 x10 x11 x12 x13 x14 x15 x16 x17 x18 x19) (View.ld x12 r0_7) (View.ld x13 r0_9) (View.ld x14 r0_10) (View.ld x15 r0_9))
    (k0_pay42 x0 x1 x2 x3 x4 x5 x6 x7 x8 x9 x10 x11 x12 x13 x14 x15 x16 x17 x18 x19) (k0_pay43 x0 x1 x2 x3 x4 x5 x6 x7 x8 x9 x10 x11 x12 x13 x14 x15 x16 x17 x18 x19) (k0_pay44 x0 x1 x2 x3 x4 x5 x6 x7 x8 x9 x10 x11 x12 x13 x14 x15 x16 x17 x18 x19) (k0_pay46 x0 x1 x2 x3 x4 x5 x6 x7 x8 x9 x10 x11 x12 x13 x14 x15 x16 x17 x18 x19) (k0_pay48 x0 x1 x2 x3 x4 x5 x6 x7 x8 x9 x10 x11 x12 x13 x14 x15 x16 x17 x18 x19) (k0_pay49 x0 x1 x2 x3 x4 x5 x6 x7 x8 x9 x10 x11 x12 x13 x14 x15 x16 x17 x18 x19)
    rfl rfl rfl rfl rfl rfl rfl rfl rfl rfl rfl rfl rfl rfl rfl rfl rfl σ srt hσ hmono hsrt k f

end Body

variable (m : (ℓ : Loc nD τ sig) → Buf (Elt Ideal) ℓ)

/-- An operand's block at the one grid point is its whole array. -/
theorem blk_read (b : Ref sig .tc) (t : Fin cfg0.N) (f : b.ty.Contents (Elt Ideal)) (inb) :
    ((Memref.whole b).access (Rect.unit (fun a => 0 * b.ty.shape.size a) b.ty.shape.size inb) : View sig .tc _ _ _).read (Elt Ideal) f = f :=
  Memref.read_access_unit_zero (Elt Ideal) b (funext fun _ => Nat.zero_mul _) _ f

/-- The body's store from its blocks is its store from the whole arrays. -/
theorem blocks_read (c : Dev nD) (t : Fin cfg0.N) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
      = out0_20 (V m c main_arg1) (V m c main_v0) (V m c main_arg0) (V m c main_arg4) (V m c main_v1) (V m c main_arg6) (V m c main_v2) (V m c main_arg8) (V m c main_v3) (V m c main_arg10) (V m c main_v4) (V m c main_arg12) (V m c main_v5) (V m c main_arg14) (V m c main_v6) (V m c main_arg16) (V m c main_arg17) (V m c main_arg18) (V m c main_arg19) (V m c main_v7) := by
  rw [show iblk m c 0 t = V m c main_arg1 from blk_read main_arg1 t _ _]
  rw [show iblk m c 1 t = V m c main_v0 from blk_read main_v0 t _ _]
  rw [show iblk m c 2 t = V m c main_arg0 from blk_read main_arg0 t _ _]
  rw [show iblk m c 3 t = V m c main_arg4 from blk_read main_arg4 t _ _]
  rw [show iblk m c 4 t = V m c main_v1 from blk_read main_v1 t _ _]
  rw [show iblk m c 5 t = V m c main_arg6 from blk_read main_arg6 t _ _]
  rw [show iblk m c 6 t = V m c main_v2 from blk_read main_v2 t _ _]
  rw [show iblk m c 7 t = V m c main_arg8 from blk_read main_arg8 t _ _]
  rw [show iblk m c 8 t = V m c main_v3 from blk_read main_v3 t _ _]
  rw [show iblk m c 9 t = V m c main_arg10 from blk_read main_arg10 t _ _]
  rw [show iblk m c 10 t = V m c main_v4 from blk_read main_v4 t _ _]
  rw [show iblk m c 11 t = V m c main_arg12 from blk_read main_arg12 t _ _]
  rw [show iblk m c 12 t = V m c main_v5 from blk_read main_v5 t _ _]
  rw [show iblk m c 13 t = V m c main_arg14 from blk_read main_arg14 t _ _]
  rw [show iblk m c 14 t = V m c main_v6 from blk_read main_v6 t _ _]
  rw [show iblk m c 15 t = V m c main_arg16 from blk_read main_arg16 t _ _]
  rw [show iblk m c 16 t = V m c main_arg17 from blk_read main_arg17 t _ _]
  rw [show iblk m c 17 t = V m c main_arg18 from blk_read main_arg18 t _ _]
  rw [show iblk m c 18 t = V m c main_arg19 from blk_read main_arg19 t _ _]
  rw [show iblk m c 19 t = V m c main_v7 from blk_read main_v7 t _ _]

/-- The one grid point. -/
abbrev pt : Fin cfg0.N := ⟨0, by decide⟩

/-- The result's one block is the whole array. -/
theorem covered (i : S50x20.Idx) : i ∈ ((cfg0.win 20).blk pt).view.set := by
  have h := ((cfg0.win 20).blk pt).view.emb_mem_set i
  have he : ((cfg0.win 20).blk pt).view.emb i = i := by
    funext a
    apply Fin.ext
    match a with
    | ⟨0, _⟩ => show 0 * 50 + 1 * (i 0).val = (i 0).val; omega
    | ⟨1, _⟩ => show 0 * 20 + 1 * (i 1).val = (i 1).val; omega
  rwa [he] at h

/-- The result array is what the body stores. -/
theorem final (c : Dev nD) : (dats m 0 c).arrAt 20 cfg0.N
    = out0_20 (V m c main_arg1) (V m c main_v0) (V m c main_arg0) (V m c main_arg4) (V m c main_v1) (V m c main_arg6) (V m c main_v2) (V m c main_arg8) (V m c main_v3) (V m c main_arg10) (V m c main_v4) (V m c main_arg12) (V m c main_v5) (V m c main_arg14) (V m c main_v6) (V m c main_arg16) (V m c main_arg17) (V m c main_arg18) (V m c main_arg19) (V m c main_v7) :=
  (dats m 0 c).arrAt_eq_of_cover 20 _ (fun t _ => by
    rw [flushed20, blocks_read]
    exact (blk_read main_v8 t _ _).symm) fun i => ⟨pt, flush0_20 _, covered i⟩

/-- The parameters of the arrays as the body finds them. -/
theorem par_launch (c : Dev nD) : par (V m c main_arg0) (V m c main_arg4) (V m c main_v1) (V m c main_arg6) (V m c main_v2) (V m c main_arg8) (V m c main_v3) (V m c main_arg10) (V m c main_v4) (V m c main_arg12) (V m c main_v5) (V m c main_arg14) (V m c main_v6) (V m c main_arg16) (V m c main_arg17) (V m c main_arg18) (V m c main_arg19) (V m c main_v7)
    = parOf (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  unfold parOf
  have hv : ∀ n, ∀ (x : FVec Ideal ⟨1, ![n]⟩ .f32) (h : (⟨1, ![n]⟩ : Shape).ShapeCasts ⟨2, ![1, n]⟩),
      Cert.KerFeatures.line (shapeCast ⟨2, ![1, n]⟩ x h) = fun j => x (ix1 j) := fun n x h => funext fun j => cast_to_row x h j
  refine Params.mk.injEq .. |>.mpr ⟨?_, ?_, ?_, ?_, ?_, ?_, ?_, ?_, ?_, ?_, ?_, ?_, ?_, ?_, ?_, ?_, ?_, ?_⟩
  · rw [V_main_arg0]
  · rw [V_main_arg4]
  · exact hv _ (m ((c : Thread nD τ).loc main_arg5)) _
  · rw [V_main_arg6]
  · exact hv _ (m ((c : Thread nD τ).loc main_arg7)) _
  · rw [V_main_arg8]
  · exact hv _ (m ((c : Thread nD τ).loc main_arg9)) _
  · rw [V_main_arg10]
  · exact hv _ (m ((c : Thread nD τ).loc main_arg11)) _
  · rw [V_main_arg12]
  · exact hv _ (m ((c : Thread nD τ).loc main_arg13)) _
  · rw [V_main_arg14]
  · exact cast_to_row (m ((c : Thread nD τ).loc main_arg15)) shapeCasts_S1_S1x1 0
  · rw [V_main_arg16]
  · rw [V_main_arg17]
  · rw [V_main_arg18]
  · rw [V_main_arg19]
  · exact hv _ (m ((c : Thread nD τ).loc main_arg20)) _

variable (row col : Fin 4000 → Fin 100) (c : Dev nD)

/-- The kernel's result at an index is the network's output. -/
theorem result_read (h5 : ∀ e, m ((c : Thread nD τ).loc main_arg1) (ix2 (0 : Fin 2) e) = BitVec.ofNat 32 (row e).val)
    (h6 : ∀ e, m ((c : Thread nD τ).loc main_arg1) (ix2 (1 : Fin 2) e) = BitVec.ofNat 32 (col e).val)
    (w : Fin 4000 → EReal) (h7 : ∀ e, m ((c : Thread nD τ).loc main_arg2) (ix1 e) = w e) (hw : ∀ e, Fine (w e)) (P : Params)
    (hP : parOf (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) = P) (σ srt : Fin 50 → Fin 100)
    (hσ : ∀ k, rank (netScore row col w P) (σ k) = k.val)
    (hmono : StrictMono srt) (hsrt : ∀ i, (∃ q, srt q = i) ↔ ∃ q, σ q = i) (k : Fin 50) (f : Fin 20) :
    (dats m 0 c).arrAt 20 cfg0.N (ix2 k f) = netOut row col σ srt w P k f := by
  rw [final]
  rw [← hP, ← par_launch] at hσ ⊢
  refine out_read (V m c main_arg1) (V m c main_v0) (V m c main_arg0) (V m c main_arg4) (V m c main_v1) (V m c main_arg6) (V m c main_v2) (V m c main_arg8) (V m c main_v3) (V m c main_arg10) (V m c main_v4) (V m c main_arg12) (V m c main_v5) (V m c main_arg14) (V m c main_v6) (V m c main_arg16) (V m c main_arg17) (V m c main_arg18) (V m c main_arg19) (V m c main_v7) row col w (fun e => ?_) (fun e => ?_) (fun e => ?_) hw σ srt hσ hmono hsrt k f
  · rw [V_main_arg1]
    exact h5 e
  · rw [V_main_arg1]
    exact h6 e
  · exact (cast_to_row (m ((c : Thread nD τ).loc main_arg2)) shapeCasts_S4000_S1x4000 e).trans (h7 e)

end Cert.KerRun
-- ==== Proof.Take.lean ====
/-
  Row gathers and row scatters read at an index, at any extents: what `x[idx]` and `zeros.at[idx].add(u)` hold when
  every index word names a row.  Nothing here names a program.
-/
module

public import Idealize.ShloMosaic.Lib.Routing.OpsSet
public import Idealize.ShloMosaic.Lib.ValueIdx
public import Idealize.ShloMosaic.PureOps.Ideal

@[expose] public section

noncomputable section

namespace Cert.Take

open Idealize.ShloMosaic Idealize.ShloMosaic.ValueIdx
open scoped BigOperators

variable {α : Type} {N n F w : Nat}

/-- Taking entries of a vector: position `p` holds the entry that its index word names. -/
theorem gather_vec (d : GatherDims ⟨1, ![N]⟩ ⟨2, ![n, 1]⟩ ⟨1, ![n]⟩) (hc : d.collapsedSliceDims = [0])
    (hb : d.operandBatchingDims = []) (hs : d.startIndexMap = [0]) (hv : d.indexVectorDim = 1)
    (x : (⟨1, ![N]⟩ : Shape).Idx → α) (idx : IVec ⟨2, ![n, 1]⟩ w) (p : Fin n) (r : Fin N)
    (hr : (idx (ix2 p (0 : Fin 1))).toInt = (r.val : Int)) : Host.gather d x idx (ix1 p) = x (ix1 r) := by
  have key := StableHlo.Predicate.gather_take d hc hb hs hv x idx p (Nat.lt_of_le_of_lt (Nat.zero_le _) r.isLt)
  have e1 : (Shape.Idx.ofFin p : (⟨1, ![n]⟩ : Shape).Idx) = ix1 p := eq_ix1 _
  have e2 : StableHlo.Predicate.ixP p = ix2 p (0 : Fin 1) := by
    funext b; match b with | ⟨0, _⟩ => rfl | ⟨1, _⟩ => rfl
  rw [e1] at key
  rw [key]
  congr 1
  funext a
  match a with
  | ⟨0, _⟩ =>
    apply Fin.ext
    show min (idx (StableHlo.Predicate.ixP p)).toInt.toNat (N - 1) = r.val
    rw [e2, hr]
    have := r.isLt
    omega

/-- Taking rows of a matrix: row `p` of the result is the row that its index word names. -/
theorem gather_rows (d : GatherDims ⟨2, ![N, F]⟩ ⟨2, ![n, 1]⟩ ⟨2, ![n, F]⟩) (ho : d.offsetDims = [1])
    (hc : d.collapsedSliceDims = [0]) (hb : d.operandBatchingDims = []) (hs : d.startIndexMap = [0]) (hv : d.indexVectorDim = 1)
    (x : (⟨2, ![N, F]⟩ : Shape).Idx → α) (idx : IVec ⟨2, ![n, 1]⟩ w) (p : Fin n) (f : Fin F) (r : Fin N)
    (hr : (idx (ix2 p (0 : Fin 1))).toInt = (r.val : Int)) : Host.gather d x idx (ix2 p f) = x (ix2 r f) := by
  have hsl : d.sliceSizes 0 = 1 := d.slice_collapsed 0 (by rw [hc]; exact List.mem_singleton.mpr rfl)
  obtain ⟨od, cd, bd, sbd, sm, iv, ss, wf⟩ := d
  dsimp only at ho hc hb hs hv hsl
  subst ho hc hb hs hv
  obtain rfl : sbd = [] := List.length_eq_zero_iff.1 (wf.2.2.2.2.2.2.2.2.2.2.2.2.2.1.1).symm
  unfold Host.gather
  congr 1
  funext a
  apply Fin.ext
  match a with
  | ⟨0, _⟩ =>
    have hsi : GatherDims.siIdx ⟨[1], [0], [], [], [0], 1, ss, wf⟩ (ix2 p f) ⟨0, Nat.one_pos⟩ = ix2 p (0 : Fin 1) := by
      funext b
      match b with
      | ⟨0, _⟩ => rfl
      | ⟨1, _⟩ => rfl
    show min (idx (GatherDims.siIdx ⟨[1], [0], [], [], [0], 1, ss, wf⟩ (ix2 p f) ⟨0, Nat.one_pos⟩)).toInt.toNat (N - ss 0) + 0 + 0 = r.val
    rw [hsi, hr, hsl]
    have := r.isLt
    omega
  | ⟨1, _⟩ => show 0 + 0 + f.val = f.val; omega

/-- A scalar update of a scatter into a vector lands at the entry that its index word names. -/
theorem lands_vec (d : ScatterDims ⟨1, ![N]⟩ ⟨2, ![n, 1]⟩ ⟨1, ![n]⟩) (hu : d.updateWindowDims = []) (hi : d.insertedWindowDims = [0])
    (hs : d.scatterDimsToOperandDims = [0]) (hv : d.indexVectorDim = 1) (idx : IVec ⟨2, ![n, 1]⟩ w) (e : Fin n) (r i : Fin N)
    (hr : (idx (ix2 e (0 : Fin 1))).toInt = (r.val : Int)) : d.resultIdx? (ix1 e) idx = some (ix1 i) ↔ r = i := by
  obtain ⟨uw, iw, sd, iv, wf⟩ := d
  dsimp only at hu hi hs hv
  subst hu hi hs hv
  have key : ScatterDims.resultIdx? ⟨[], [0], [0], 1, wf⟩ (ix1 e) idx = some (ix1 r) := by
    unfold ScatterDims.resultIdx?
    have hsi : ScatterDims.siIdx ⟨[], [0], [0], 1, wf⟩ (ix1 e) ⟨0, Nat.one_pos⟩ = ix2 e (0 : Fin 1) := by
      funext b
      match b with
      | ⟨0, _⟩ => rfl
      | ⟨1, _⟩ => rfl
    have hst : ∀ a, ScatterDims.start ⟨[], [0], [0], 1, wf⟩ (ix1 e) idx a = (r.val : Int) := by
      intro a
      match a with
      | ⟨0, _⟩ => exact (congrArg (fun q => (idx q).toInt) hsi).trans hr
    have hw : ∀ a, ScatterDims.window ⟨[], [0], [0], 1, wf⟩ (ix1 e) a = 0 := by
      intro a
      match a with
      | ⟨0, _⟩ => rfl
    have hr' := r.isLt
    rw [dif_pos]
    · congr 1
      funext a
      apply Fin.ext
      match a with
      | ⟨0, h0⟩ =>
        show (ScatterDims.start ⟨[], [0], [0], 1, wf⟩ (ix1 e) idx ⟨0, h0⟩ + (ScatterDims.window ⟨[], [0], [0], 1, wf⟩ (ix1 e) ⟨0, h0⟩ : Int)).toNat = r.val
        rw [hst, hw]; omega
    · intro a
      rw [hst, hw]
      match a with
      | ⟨0, _⟩ =>
        show 0 ≤ (r.val : Int) + ((0 : Nat) : Int) ∧ (r.val : Int) + ((0 : Nat) : Int) < (N : Int)
        omega
  rw [key]
  constructor
  · intro h; exact congrFun (Option.some.inj h) 0
  · rintro rfl; rfl

/-- A row update of a scatter into a matrix lands, column by column, at the row that its index word names. -/
theorem lands_rows (d : ScatterDims ⟨2, ![N, F]⟩ ⟨2, ![n, 1]⟩ ⟨2, ![n, F]⟩) (hu : d.updateWindowDims = [1]) (hi : d.insertedWindowDims = [0])
    (hs : d.scatterDimsToOperandDims = [0]) (hv : d.indexVectorDim = 1) (idx : IVec ⟨2, ![n, 1]⟩ w) (e : Fin n) (f g : Fin F) (r i : Fin N)
    (hr : (idx (ix2 e (0 : Fin 1))).toInt = (r.val : Int)) : d.resultIdx? (ix2 e f) idx = some (ix2 i g) ↔ r = i ∧ f = g := by
  obtain ⟨uw, iw, sd, iv, wf⟩ := d
  dsimp only at hu hi hs hv
  subst hu hi hs hv
  have key : ScatterDims.resultIdx? ⟨[1], [0], [0], 1, wf⟩ (ix2 e f) idx = some (ix2 r f) := by
    unfold ScatterDims.resultIdx?
    have h0 : ScatterDims.start ⟨[1], [0], [0], 1, wf⟩ (ix2 e f) idx 0 + (ScatterDims.window ⟨[1], [0], [0], 1, wf⟩ (ix2 e f) 0 : Int) = (r.val : Int) := by
      have hsi : ScatterDims.siIdx ⟨[1], [0], [0], 1, wf⟩ (ix2 e f) ⟨0, Nat.one_pos⟩ = ix2 e (0 : Fin 1) := by
        funext b
        match b with
        | ⟨0, _⟩ => rfl
        | ⟨1, _⟩ => rfl
      have a1 : ScatterDims.start ⟨[1], [0], [0], 1, wf⟩ (ix2 e f) idx 0 = (r.val : Int) :=
        (congrArg (fun q => (idx q).toInt) hsi).trans hr
      have a2 : ScatterDims.window ⟨[1], [0], [0], 1, wf⟩ (ix2 e f) 0 = 0 := rfl
      rw [a1, a2]; omega
    have h1 : ScatterDims.start ⟨[1], [0], [0], 1, wf⟩ (ix2 e f) idx 1 + (ScatterDims.window ⟨[1], [0], [0], 1, wf⟩ (ix2 e f) 1 : Int) = (f.val : Int) := by
      have a1 : ScatterDims.start ⟨[1], [0], [0], 1, wf⟩ (ix2 e f) idx 1 = 0 := rfl
      have a2 : ScatterDims.window ⟨[1], [0], [0], 1, wf⟩ (ix2 e f) 1 = f.val := rfl
      rw [a1, a2]; omega
    have hr' := r.isLt
    have hf' := f.isLt
    rw [dif_pos]
    · congr 1
      funext a
      apply Fin.ext
      match a with
      | ⟨0, _⟩ => exact (congrArg Int.toNat h0).trans (Int.toNat_natCast _)
      | ⟨1, _⟩ => exact (congrArg Int.toNat h1).trans (Int.toNat_natCast _)
    · intro a
      match a with
      | ⟨0, _⟩ =>
        have : (0 : Int) ≤ r.val ∧ (r.val : Int) < (N : Int) := by omega
        rw [← h0] at this; exact this
      | ⟨1, _⟩ =>
        have : (0 : Int) ≤ f.val ∧ (f.val : Int) < (F : Int) := by omega
        rw [← h1] at this; exact this
  rw [key]
  constructor
  · intro h
    exact ⟨congrFun (Option.some.inj h) 0, congrFun (Option.some.inj h) 1⟩
  · rintro ⟨rfl, rfl⟩; rfl

/-- Adding scalars into a vector: entry `i` gains the updates whose index word names it. -/
theorem scatter_add_vec (d : ScatterDims ⟨1, ![N]⟩ ⟨2, ![n, 1]⟩ ⟨1, ![n]⟩) (hu : d.updateWindowDims = []) (hi : d.insertedWindowDims = [0])
    (hs : d.scatterDimsToOperandDims = [0]) (hv : d.indexVectorDim = 1) (x : (⟨1, ![N]⟩ : Shape).Idx → EReal)
    (idx : IVec ⟨2, ![n, 1]⟩ w) (u : (⟨1, ![n]⟩ : Shape).Idx → EReal) (r : Fin n → Fin N)
    (hr : ∀ e, (idx (ix2 e (0 : Fin 1))).toInt = ((r e).val : Int)) (i : Fin N) :
    Ideal.hostScatterAdd d x idx u (ix1 i) = x (ix1 i) + ∑ e, if r e = i then u (ix1 e) else 0 := by
  unfold Ideal.hostScatterAdd
  congr 1
  rw [Finset.sum_filter]
  refine Fintype.sum_equiv ⟨fun j => j 0, fun e => ix1 e, fun j => (eq_ix1 j).symm, fun _ => rfl⟩ _ _ (fun j => ?_)
  obtain ⟨e, rfl⟩ : ∃ e, j = ix1 e := ⟨_, eq_ix1 j⟩
  have := lands_vec d hu hi hs hv idx e (r e) i (hr e)
  show (if _ then _ else _) = if r e = i then u (ix1 e) else 0
  by_cases h : r e = i
  · rw [if_pos (this.2 h), if_pos h]
  · rw [if_neg (fun q => h (this.1 q)), if_neg h]

/-- Adding rows into a matrix: row `i` gains the update rows whose index word names it. -/
theorem scatter_add_rows (d : ScatterDims ⟨2, ![N, F]⟩ ⟨2, ![n, 1]⟩ ⟨2, ![n, F]⟩) (hu : d.updateWindowDims = [1]) (hi : d.insertedWindowDims = [0])
    (hs : d.scatterDimsToOperandDims = [0]) (hv : d.indexVectorDim = 1) (x : (⟨2, ![N, F]⟩ : Shape).Idx → EReal)
    (idx : IVec ⟨2, ![n, 1]⟩ w) (u : (⟨2, ![n, F]⟩ : Shape).Idx → EReal) (r : Fin n → Fin N)
    (hr : ∀ e, (idx (ix2 e (0 : Fin 1))).toInt = ((r e).val : Int)) (i : Fin N) (g : Fin F) :
    Ideal.hostScatterAdd d x idx u (ix2 i g) = x (ix2 i g) + ∑ e, if r e = i then u (ix2 e g) else 0 := by
  unfold Ideal.hostScatterAdd
  congr 1
  rw [Finset.sum_filter, sum_idx2]
  refine Finset.sum_congr rfl fun e _ => ?_
  rw [Finset.sum_eq_single g]
  · have := lands_rows d hu hi hs hv idx e g g (r e) i (hr e)
    by_cases h : r e = i
    · rw [if_pos (this.2 ⟨h, rfl⟩), if_pos h]
    · rw [if_neg (fun q => h (this.1 q).1), if_neg h]
  · intro f _ hf
    rw [if_neg]
    intro q
    exact hf ((lands_rows d hu hi hs hv idx e f g (r e) i (hr e)).1 q).2
  · intro h; exact (h (Finset.mem_univ _)).elim

/-- Setting entries of a vector at indices that never repeat: the named entry holds its update. -/
theorem scatter_set_vec_hit (d : ScatterDims ⟨1, ![N]⟩ ⟨2, ![n, 1]⟩ ⟨1, ![n]⟩) (hu : d.updateWindowDims = []) (hi : d.insertedWindowDims = [0])
    (hs : d.scatterDimsToOperandDims = [0]) (hv : d.indexVectorDim = 1) (x : (⟨1, ![N]⟩ : Shape).Idx → α)
    (idx : IVec ⟨2, ![n, 1]⟩ w) (u : (⟨1, ![n]⟩ : Shape).Idx → α) (r : Fin n → Fin N)
    (hr : ∀ e, (idx (ix2 e (0 : Fin 1))).toInt = ((r e).val : Int)) (inj : Function.Injective r) (e : Fin n) :
    Host.scatter d (fun _ b => b) x idx u (ix1 (r e)) = u (ix1 e) := by
  refine Routing.scatter_set_hit d x idx u _ _ (fun k hk => ?_) (ix1 e) ((lands_vec d hu hi hs hv idx e (r e) _ (hr e)).2 rfl)
  obtain ⟨k, rfl⟩ : ∃ e, k = ix1 e := ⟨_, eq_ix1 k⟩
  rw [inj ((lands_vec d hu hi hs hv idx k (r k) _ (hr k)).1 hk)]

/-- … and an entry that no index names keeps the operand's. -/
theorem scatter_set_vec_miss (d : ScatterDims ⟨1, ![N]⟩ ⟨2, ![n, 1]⟩ ⟨1, ![n]⟩) (hu : d.updateWindowDims = []) (hi : d.insertedWindowDims = [0])
    (hs : d.scatterDimsToOperandDims = [0]) (hv : d.indexVectorDim = 1) (x : (⟨1, ![N]⟩ : Shape).Idx → α)
    (idx : IVec ⟨2, ![n, 1]⟩ w) (u : (⟨1, ![n]⟩ : Shape).Idx → α) (r : Fin n → Fin N)
    (hr : ∀ e, (idx (ix2 e (0 : Fin 1))).toInt = ((r e).val : Int)) (i : Fin N) (h : ∀ e, r e ≠ i) :
    Host.scatter d (fun _ b => b) x idx u (ix1 i) = x (ix1 i) := by
  refine Routing.scatter_set_miss d x idx u _ (fun k hk => ?_)
  obtain ⟨k, rfl⟩ : ∃ e, k = ix1 e := ⟨_, eq_ix1 k⟩
  exact h k ((lands_vec d hu hi hs hv idx k (r k) _ (hr k)).1 hk)

end Cert.Take

end
-- ==== Proof.HostOps.lean ====
/-
  The blocks of host operations the reference is written with, each a function of its arrays, and what each reads at an
  index when the index vectors hold nodes.
-/
module

public import proofs.«01_k».proof.Proof.Cheb
public import proofs.«01_k».proof.Proof.Reads
public import proofs.«01_k».proof.Proof.Take

@[expose] public section

noncomputable section

namespace Cert.HostOps

open Idealize.ShloMosaic Idealize.ShloMosaic.ValueIdx Cert.Model Cert.Reads
open scoped BigOperators

variable {T n m : Nat}

/-- A scalar's broadcast to every index of a shape. -/
abbrev Fill (s : Shape) : Prop := (⟨0, ![]⟩ : Shape).BroadcastsInDim s ![]

/-- A vector as a column. -/
abbrev Col (T m : Nat) : Prop := (⟨1, ![T]⟩ : Shape).BroadcastsInDim ⟨2, ![T, m]⟩ ![0]

/-- A column spread over columns. -/
abbrev Spread (T m : Nat) : Prop := (⟨2, ![T, 1]⟩ : Shape).BroadcastsInDim ⟨2, ![T, m]⟩ ![0, 1]

/-- The array of one float. -/
abbrev fill {s : Shape} (h : Fill s) (b : BitVec 32) : FVec Ideal s .f32 := broadcastInDim s ![] h (constant ⟨0, ![]⟩ .f32 b)

/-- The index column of a vector of nodes, a negative one counted from the end. -/
def column (h0 : Fill ⟨1, ![T]⟩) (h1 : Col T 1) (v : IVec ⟨1, ![T]⟩ 32) : IVec ⟨2, ![T, 1]⟩ 32 :=
  broadcastInDim ⟨2, ![T, 1]⟩ ![0] h1 (select (cmpi .slt v (broadcastInDim ⟨1, ![T]⟩ ![] h0 (constantI ⟨0, ![]⟩ 32 0#32)))
    (addi v (broadcastInDim ⟨1, ![T]⟩ ![] h0 (constantI ⟨0, ![]⟩ 32 100#32))) v)

/-- An index column reads the node its vector holds. -/
theorem column_read (h0 : Fill ⟨1, ![T]⟩) (h1 : Col T 1) (v : IVec ⟨1, ![T]⟩ 32) (e : Fin T) (r : Fin 100)
    (hv : v (ix1 e) = BitVec.ofNat 32 r.val) : (column h0 h1 v (ix2 e (0 : Fin 1))).toInt = (r.val : Int) := by
  have hr : r.val < 2 ^ 31 := lt_trans r.isLt (by norm_num)
  have hc := lt_word v (broadcastInDim ⟨1, ![T]⟩ ![] h0 (constantI ⟨0, ![]⟩ 32 0#32)) (ix1 e) (b := 0) hv
    (host_scalar h0 _ _) hr (by norm_num)
  rw [column, host_column, select_of _ _ _ _ _ hc, if_neg (Nat.not_lt_zero _), hv]
  exact StableHlo.Predicate.toInt_ofNat_small _ hr

/-- The word of zero is zero. -/
theorem zero_word : (FloatOps.ofBits (F := Ideal) .f32 0x00000000#32 : EReal) = 0 := Ideal.ofBits_zero_f32

/-- The word of one is one. -/
theorem one_word : (FloatOps.ofBits (F := Ideal) .f32 0x3F800000#32 : EReal) = 1 := Ideal.ofBits_one_f32

/-- An array filled with zero reads zero. -/
theorem fill_zero {s : Shape} (h : Fill s) (i : s.Idx) : fill h 0x00000000#32 i = 0 := (host_scalar h _ i).trans zero_word

/-- An array filled with one reads one. -/
theorem fill_one {s : Shape} (h : Fill s) (i : s.Idx) : fill h 0x3F800000#32 i = 1 := (host_scalar h _ i).trans one_word

/-- The inverse square roots of the positive degrees, and zero elsewhere. -/
def invHost (h : Fill ⟨1, ![n]⟩) (d : FVec Ideal ⟨1, ![n]⟩ .f32) : FVec Ideal ⟨1, ![n]⟩ .f32 :=
  select (cmpf .ogt d (fill h 0x00000000#32))
    (Host.rsqrt (select (cmpf .ogt d (fill h 0x00000000#32)) d (fill h 0x3F800000#32))) (fill h 0x00000000#32)

/-- Each entry is the inverse square root of the degree, or zero. -/
theorem invHost_read (h : Fill ⟨1, ![n]⟩) (d : FVec Ideal ⟨1, ![n]⟩ .f32) (i : Fin n) :
    invHost h d (ix1 i) = invSqrt (d (ix1 i)) := by
  have hc := gt_float d (fill h 0x00000000#32) (ix1 i)
  rw [fill_zero] at hc
  rw [invHost, select_of _ _ _ _ _ hc, fill_zero, invSqrt]
  congr 1
  show Ideal.rsqrt (select _ d _ (ix1 i)) = _
  rw [select_of _ _ _ _ _ hc, fill_one]

section Graph

variable (h0 : Fill ⟨1, ![T]⟩) (h1 : Col T 1) (hN : Fill ⟨1, ![100]⟩)
  (gv : GatherDims ⟨1, ![100]⟩ ⟨2, ![T, 1]⟩ ⟨1, ![T]⟩) (sv : ScatterDims ⟨1, ![100]⟩ ⟨2, ![T, 1]⟩ ⟨1, ![T]⟩)
  (gm : GatherDims ⟨2, ![100, m]⟩ ⟨2, ![T, 1]⟩ ⟨2, ![T, m]⟩) (sm : ScatterDims ⟨2, ![100, m]⟩ ⟨2, ![T, 1]⟩ ⟨2, ![T, m]⟩)
  (hM : Fill ⟨2, ![100, m]⟩) (hS : Spread T m)
  (rows cols : IVec ⟨1, ![T]⟩ 32) (w : FVec Ideal ⟨1, ![T]⟩ .f32) (z : FVec Ideal ⟨2, ![100, m]⟩ .f32)

/-- The weights added up at the nodes they arrive at. -/
def degHost : FVec Ideal ⟨1, ![100]⟩ .f32 := Host.scatterAdd sv (fill hN 0x00000000#32) (column h0 h1 cols) w

/-- The rows of the sending nodes, added up at the nodes they arrive at. -/
def arriveHost : FVec Ideal ⟨2, ![100, m]⟩ .f32 :=
  Host.scatterAdd sm (fill hM 0x00000000#32) (column h0 h1 cols) (Host.gather gm z (column h0 h1 rows))

/-- The same with each row scaled by its edge's weight. -/
def sendHost : FVec Ideal ⟨2, ![100, m]⟩ .f32 :=
  Host.scatterAdd sm (fill hM 0x00000000#32) (column h0 h1 cols)
    (mulf (Host.gather gm z (column h0 h1 rows)) (broadcastInDim ⟨2, ![T, m]⟩ ![0, 1] hS (broadcastInDim ⟨2, ![T, 1]⟩ ![0] h1 w)))

/-- The normalised weights of the convolution's edges. -/
def normHost : FVec Ideal ⟨1, ![T]⟩ .f32 :=
  mulf (mulf (Host.gather gv (invHost hN (degHost h0 h1 hN sv cols w)) (column h0 h1 rows)) w)
    (Host.gather gv (invHost hN (degHost h0 h1 hN sv cols w)) (column h0 h1 cols))

variable (R C : Fin T → Fin 100) (hR : ∀ e, rows (ix1 e) = BitVec.ofNat 32 (R e).val) (hC : ∀ e, cols (ix1 e) = BitVec.ofNat 32 (C e).val)

include hC in
/-- The degree of a node is the sum of the weights of the edges arriving at it. -/
theorem degHost_read (hu : sv.updateWindowDims = []) (hi : sv.insertedWindowDims = [0]) (hs : sv.scatterDimsToOperandDims = [0])
    (hv : sv.indexVectorDim = 1) (i : Fin 100) :
    degHost h0 h1 hN sv cols w (ix1 i) = ∑ e, if C e = i then w (ix1 e) else 0 := by
  refine (Take.scatter_add_vec sv hu hi hs hv _ _ w C (fun e => column_read h0 h1 cols e (C e) (hC e)) i).trans ?_
  rw [fill_zero, zero_add]

include hR hC in
/-- The row of a node is the sum of the rows sent along the edges arriving at it. -/
theorem arriveHost_read (ho : gm.offsetDims = [1]) (hc : gm.collapsedSliceDims = [0]) (hb : gm.operandBatchingDims = [])
    (hg : gm.startIndexMap = [0]) (hw : gm.indexVectorDim = 1) (hu : sm.updateWindowDims = [1]) (hi : sm.insertedWindowDims = [0])
    (hs : sm.scatterDimsToOperandDims = [0]) (hv : sm.indexVectorDim = 1) (i : Fin 100) (f : Fin m) :
    arriveHost h0 h1 gm sm hM rows cols z (ix2 i f) = ∑ e, if C e = i then z (ix2 (R e) f) else 0 := by
  refine (Take.scatter_add_rows sm hu hi hs hv _ _ _ C (fun e => column_read h0 h1 cols e (C e) (hC e)) i f).trans ?_
  rw [fill_zero, zero_add]
  refine Finset.sum_congr rfl fun e _ => ?_
  rw [Take.gather_rows gm ho hc hb hg hw z _ e f (R e) (column_read h0 h1 rows e (R e) (hR e))]

include hR hC in
/-- The row of a node is the sum of the weighted rows sent along the edges arriving at it. -/
theorem sendHost_read (ho : gm.offsetDims = [1]) (hc : gm.collapsedSliceDims = [0]) (hb : gm.operandBatchingDims = [])
    (hg : gm.startIndexMap = [0]) (hw : gm.indexVectorDim = 1) (hu : sm.updateWindowDims = [1]) (hi : sm.insertedWindowDims = [0])
    (hs : sm.scatterDimsToOperandDims = [0]) (hv : sm.indexVectorDim = 1) (i : Fin 100) (f : Fin m) :
    sendHost h0 h1 gm sm hM hS rows cols w z (ix2 i f) = ∑ e, if C e = i then z (ix2 (R e) f) * w (ix1 e) else 0 := by
  refine (Take.scatter_add_rows sm hu hi hs hv _ _ _ C (fun e => column_read h0 h1 cols e (C e) (hC e)) i f).trans ?_
  rw [fill_zero, zero_add]
  refine Finset.sum_congr rfl fun e _ => ?_
  rw [mulf_apply, Take.gather_rows gm ho hc hb hg hw z _ e f (R e) (column_read h0 h1 rows e (R e) (hR e)), host_spread_column,
    host_column]

include hR hC in
/-- The normalised weight of an edge is its weight between the inverse roots of the degrees of its ends. -/
theorem normHost_read (hc : gv.collapsedSliceDims = [0]) (hb : gv.operandBatchingDims = []) (hg : gv.startIndexMap = [0])
    (hw : gv.indexVectorDim = 1) (hu : sv.updateWindowDims = []) (hi : sv.insertedWindowDims = [0])
    (hs : sv.scatterDimsToOperandDims = [0]) (hv : sv.indexVectorDim = 1) (e : Fin T) :
    normHost h0 h1 hN gv sv rows cols w (ix1 e)
      = invSqrt (∑ q, if C q = R e then w (ix1 q) else 0) * w (ix1 e) * invSqrt (∑ q, if C q = C e then w (ix1 q) else 0) := by
  rw [normHost, mulf_apply, mulf_apply, Take.gather_vec gv hc hb hg hw _ _ e (R e) (column_read h0 h1 rows e (R e) (hR e)),
    Take.gather_vec gv hc hb hg hw _ _ e (C e) (column_read h0 h1 cols e (C e) (hC e)), invHost_read, invHost_read,
    degHost_read h0 h1 hN sv cols w C hC hu hi hs hv, degHost_read h0 h1 hN sv cols w C hC hu hi hs hv]

end Graph

/-! ## The edge list with the loops -/

variable {E : Nat}

/-- Two vectors joined read the first, and then the second. -/
theorem join_left {α : Type} (h : Shape.Concatenates [⟨1, ![E]⟩, ⟨1, ![n]⟩] ⟨1, ![E + n]⟩ 0) (x : (⟨1, ![E]⟩ : Shape).Idx → α)
    (y : (⟨1, ![n]⟩ : Shape).Idx → α) (e : Fin E) :
    concatenate ⟨1, ![E + n]⟩ 0 [⟨⟨1, ![E]⟩, x⟩, ⟨⟨1, ![n]⟩, y⟩] h (ix1 (Fin.castAdd n e)) = x (ix1 e) :=
  concatenate_pair_apply_left 0 x y h _ rfl (ix1 e) fun b => by match b with | ⟨0, _⟩ => rfl

/-- Two vectors joined read the second behind the first. -/
theorem join_right {α : Type} (h : Shape.Concatenates [⟨1, ![E]⟩, ⟨1, ![n]⟩] ⟨1, ![E + n]⟩ 0) (x : (⟨1, ![E]⟩ : Shape).Idx → α)
    (y : (⟨1, ![n]⟩ : Shape).Idx → α) (i : Fin n) :
    concatenate ⟨1, ![E + n]⟩ 0 [⟨⟨1, ![E]⟩, x⟩, ⟨⟨1, ![n]⟩, y⟩] h (ix1 (Fin.natAdd E i)) = y (ix1 i) :=
  concatenate_pair_apply_right 0 x y h _ rfl rfl (ix1 i) (fun b hb => by match b with | ⟨0, _⟩ => exact absurd rfl hb)
    (by show i.val + E = E + i.val; omega)

/-! ## The two halves of the nodes -/

/-- The first fifty rows of one array over the last fifty of another. -/
def halves {α : Type} (h1 : (⟨2, ![100, m]⟩ : Shape).Slices ![0, 0] ⟨2, ![50, m]⟩) (h2 : (⟨2, ![100, m]⟩ : Shape).Slices ![50, 0] ⟨2, ![50, m]⟩)
    (hc : Shape.Concatenates [⟨2, ![50, m]⟩, ⟨2, ![50, m]⟩] ⟨2, ![100, m]⟩ 0) (x y : (⟨2, ![100, m]⟩ : Shape).Idx → α) :
    (⟨2, ![100, m]⟩ : Shape).Idx → α :=
  concatenate ⟨2, ![100, m]⟩ 0 [⟨⟨2, ![50, m]⟩, extractStridedSlice ⟨2, ![50, m]⟩ ![0, 0] x h1⟩,
    ⟨⟨2, ![50, m]⟩, extractStridedSlice ⟨2, ![50, m]⟩ ![50, 0] y h2⟩] hc

/-- The joined array reads the first array above row fifty and the second from there on. -/
theorem halves_read {α : Type} (h1 : (⟨2, ![100, m]⟩ : Shape).Slices ![0, 0] ⟨2, ![50, m]⟩)
    (h2 : (⟨2, ![100, m]⟩ : Shape).Slices ![50, 0] ⟨2, ![50, m]⟩)
    (hc : Shape.Concatenates [⟨2, ![50, m]⟩, ⟨2, ![50, m]⟩] ⟨2, ![100, m]⟩ 0) (x y : (⟨2, ![100, m]⟩ : Shape).Idx → α)
    (i : Fin 100) (f : Fin m) : halves h1 h2 hc x y (ix2 i f) = if i.val < 50 then x (ix2 i f) else y (ix2 i f) := by
  unfold halves
  split
  · rename_i hi
    rw [concatenate_pair_apply_left 0 _ _ hc _ rfl (ix2 (⟨i.val, hi⟩ : Fin 50) f)
      (fun b => by match b with | ⟨0, _⟩ => rfl | ⟨1, _⟩ => rfl)]
    refine extractStridedSlice_apply _ x h1 _ _ fun a => ?_
    match a with
    | ⟨0, _⟩ => show i.val = 0 + i.val; omega
    | ⟨1, _⟩ => show f.val = 0 + f.val; omega
  · rename_i hi
    have hb := i.isLt
    rw [concatenate_pair_apply_right 0 _ _ hc _ rfl rfl (ix2 (⟨i.val - 50, by omega⟩ : Fin 50) f)
      (fun b hb => by match b with | ⟨0, _⟩ => exact absurd rfl hb | ⟨1, _⟩ => rfl)
      (by show i.val - 50 + 50 = i.val; omega)]
    refine extractStridedSlice_apply _ y h2 _ _ fun a => ?_
    match a with
    | ⟨0, _⟩ => show i.val = 50 + (i.val - 50); omega
    | ⟨1, _⟩ => show f.val = 0 + f.val; omega

end Cert.HostOps
-- ==== Proof.HostConv.lean ====
/-
  The reference's graph convolution over the edge list with its loops, as the sum over the edges and the loop.
-/
module

public import proofs.«01_k».proof.Proof.HostOps
public import proofs.«01_k».proof.Proof.Net

@[expose] public section

noncomputable section

namespace Cert.HostConv

open Idealize.ShloMosaic Idealize.ShloMosaic.ValueIdx Cert.Model Cert.Reads Cert.HostOps
open scoped BigOperators

/-- The inverse square root of a degree is not guarded: a degree is at least one. -/
theorem invSqrt_deg {E : Type} [Fintype E] (col : E → Fin 100) {w : E → EReal} (hw : ∀ e, Fine (w e)) (i : Fin 100) :
    invSqrt (deg col w i) = dis col w i := by
  obtain ⟨d, hd, h⟩ := deg_real col hw i
  have hp : 0 < deg col w i := by rw [h]; exact EReal.coe_pos.2 (by linarith)
  rw [invSqrt, if_pos hp, if_pos hp, dis]

variable {E m : Nat}

section

variable (hc : Shape.Concatenates [⟨1, ![E]⟩, ⟨1, ![100]⟩] ⟨1, ![E + 100]⟩ 0)
  (h0 : Fill ⟨1, ![E + 100]⟩) (h1 : Col (E + 100) 1) (hN : Fill ⟨1, ![100]⟩)
  (gv : GatherDims ⟨1, ![100]⟩ ⟨2, ![E + 100, 1]⟩ ⟨1, ![E + 100]⟩) (sv : ScatterDims ⟨1, ![100]⟩ ⟨2, ![E + 100, 1]⟩ ⟨1, ![E + 100]⟩)
  (gm : GatherDims ⟨2, ![100, m]⟩ ⟨2, ![E + 100, 1]⟩ ⟨2, ![E + 100, m]⟩)
  (sm : ScatterDims ⟨2, ![100, m]⟩ ⟨2, ![E + 100, 1]⟩ ⟨2, ![E + 100, m]⟩)
  (hM : Fill ⟨2, ![100, m]⟩) (hS : Spread (E + 100) m)
  (hB : (⟨1, ![m]⟩ : Shape).BroadcastsInDim ⟨2, ![1, m]⟩ ![1]) (hB' : (⟨2, ![1, m]⟩ : Shape).BroadcastsInDim ⟨2, ![100, m]⟩ ![0, 1])
  (rows cols : IVec ⟨1, ![E]⟩ 32) (ws : FVec Ideal ⟨1, ![E]⟩ .f32) (z : FVec Ideal ⟨2, ![100, m]⟩ .f32) (b : FVec Ideal ⟨1, ![m]⟩ .f32)

/-- The ends of the edges, and then the nodes' own. -/
def looped (v : IVec ⟨1, ![E]⟩ 32) : IVec ⟨1, ![E + 100]⟩ 32 :=
  concatenate ⟨1, ![E + 100]⟩ 0 [⟨⟨1, ![E]⟩, v⟩, ⟨⟨1, ![100]⟩, iotaInDim ⟨1, ![100]⟩ 32 0⟩] hc

/-- The weights of the edges, and then ones. -/
def loopedW (w : FVec Ideal ⟨1, ![E]⟩ .f32) : FVec Ideal ⟨1, ![E + 100]⟩ .f32 :=
  concatenate ⟨1, ![E + 100]⟩ 0 [⟨⟨1, ![E]⟩, w⟩, ⟨⟨1, ![100]⟩, fill hN 0x3F800000#32⟩] hc

/-- The convolution, its bias and the leaky rectifier. -/
def featHost : FVec Ideal ⟨2, ![100, m]⟩ .f32 :=
  let y := addf (sendHost h0 h1 gm sm hM hS (looped hc rows) (looped hc cols)
      (normHost h0 h1 hN gv sv (looped hc rows) (looped hc cols) (loopedW hc hN ws)) z)
    (broadcastInDim ⟨2, ![100, m]⟩ ![0, 1] hB' (broadcastInDim ⟨2, ![1, m]⟩ ![1] hB b))
  select (cmpf .oge y (fill hM 0x00000000#32)) y (mulf (fill hM 0x3C23D70A#32) y)

variable (row col : Fin E → Fin 100) (w : Fin E → EReal)
  (hR : ∀ e, rows (ix1 e) = BitVec.ofNat 32 (row e).val) (hC : ∀ e, cols (ix1 e) = BitVec.ofNat 32 (col e).val)
  (hW : ∀ e, ws (ix1 e) = w e) (hw : ∀ e, Fine (w e))

/-- The nodes of the joined list. -/
abbrev ends (r : Fin E → Fin 100) : Fin (E + 100) → Fin 100 := Fin.append r id

include hR in
/-- The list of ends with the loops behind it reads the joined list of nodes. -/
theorem looped_read (e : Fin (E + 100)) : looped hc rows (ix1 e) = BitVec.ofNat 32 (ends row e).val := by
  induction e using Fin.addCases with
  | left e => rw [looped, join_left, ends, Fin.append_left]; exact hR e
  | right i => rw [looped, join_right, ends, Fin.append_right]; rfl

include hW in
/-- The weights arriving at a node, its own loop included, add up to its degree. -/
theorem degree_split (i : Fin 100) : (∑ e, if ends col e = i then loopedW hc hN ws (ix1 e) else 0) = deg col w i := by
  rw [Fin.sum_univ_add, deg]
  congr 1
  · refine Finset.sum_congr rfl fun e _ => ?_
    rw [ends, Fin.append_left, loopedW, join_left, hW]
  · rw [Finset.sum_eq_single i]
    · rw [ends, Fin.append_right, loopedW, join_right, fill_one]; exact if_pos rfl
    · intro j _ hj
      rw [ends, Fin.append_right]
      exact if_neg hj
    · intro h; exact absurd (Finset.mem_univ _) h

include hR hC hW hw in
/-- The block reads the model's convolution, biased and rectified. -/
theorem featHost_read (k1 : gv.collapsedSliceDims = [0]) (k2 : gv.operandBatchingDims = []) (k3 : gv.startIndexMap = [0])
    (k4 : gv.indexVectorDim = 1) (k5 : sv.updateWindowDims = []) (k6 : sv.insertedWindowDims = [0])
    (k7 : sv.scatterDimsToOperandDims = [0]) (k8 : sv.indexVectorDim = 1) (k9 : gm.offsetDims = [1]) (k10 : gm.collapsedSliceDims = [0])
    (k11 : gm.operandBatchingDims = []) (k12 : gm.startIndexMap = [0]) (k13 : gm.indexVectorDim = 1) (k14 : sm.updateWindowDims = [1])
    (k15 : sm.insertedWindowDims = [0]) (k16 : sm.scatterDimsToOperandDims = [0]) (k17 : sm.indexVectorDim = 1)
    (i : Fin 100) (f : Fin m) :
    featHost hc h0 h1 hN gv sv gm sm hM hS hB hB' rows cols ws z b (ix2 i f)
      = leaky slope (gcn row col w (fun i f => z (ix2 i f)) i f + b (ix1 f)) := by
  have hy : addf (sendHost h0 h1 gm sm hM hS (looped hc rows) (looped hc cols)
        (normHost h0 h1 hN gv sv (looped hc rows) (looped hc cols) (loopedW hc hN ws)) z)
      (broadcastInDim ⟨2, ![100, m]⟩ ![0, 1] hB' (broadcastInDim ⟨2, ![1, m]⟩ ![1] hB b)) (ix2 i f)
      = gcn row col w (fun i f => z (ix2 i f)) i f + b (ix1 f) := by
    rw [addf_apply, host_spread_row, host_row, sendHost_read h0 h1 gm sm hM hS _ _ _ z (ends row) (ends col)
      (looped_read hc rows row hR) (looped_read hc cols col hC) k9 k10 k11 k12 k13 k14 k15 k16 k17]
    refine congrArg (· + b (ix1 f)) ?_
    rw [Finset.sum_congr rfl fun e _ => by
      rw [normHost_read h0 h1 hN gv sv _ _ _ (ends row) (ends col) (looped_read hc rows row hR) (looped_read hc cols col hC)
        k1 k2 k3 k4 k5 k6 k7 k8, degree_split hc hN ws col w hW, degree_split hc hN ws col w hW, invSqrt_deg col hw,
        invSqrt_deg col hw]]
    rw [Fin.sum_univ_add, gcn]
    congr 1
    · refine Finset.sum_congr rfl fun e _ => ?_
      rw [ends, ends, Fin.append_left, Fin.append_left, loopedW, join_left, hW]
    · rw [Finset.sum_eq_single i]
      · rw [ends, ends, Fin.append_right, Fin.append_right, loopedW, join_right, fill_one]; exact if_pos rfl
      · intro j _ hj
        rw [ends, Fin.append_right]
        exact if_neg hj
      · intro h; exact absurd (Finset.mem_univ _) h
  rw [featHost]
  have ht := ge_float (addf (sendHost h0 h1 gm sm hM hS (looped hc rows) (looped hc cols)
        (normHost h0 h1 hN gv sv (looped hc rows) (looped hc cols) (loopedW hc hN ws)) z)
      (broadcastInDim ⟨2, ![100, m]⟩ ![0, 1] hB' (broadcastInDim ⟨2, ![1, m]⟩ ![1] hB b))) (fill hM 0x00000000#32) (ix2 i f)
  rw [fill_zero, hy] at ht
  rw [select_of _ _ _ _ _ ht, mulf_apply, hy]
  rfl

end

end Cert.HostConv
-- ==== Proof.RefFeatures.lean ====
/-
  The reference's feature layers read as the network's.
-/
module

public import proofs.«01_k».proof.Proof.Gen.ReferenceIdeal.Read
public import proofs.«01_k».proof.Proof.HostConv
public import proofs.«01_k».proof.Proof.Par

@[expose] public section

noncomputable section

namespace Cert.RefFeatures

open Idealize.ShloMosaic Idealize.ShloMosaic.ValueIdx Cert.Model Cert.Reads Cert.HostOps Cert.HostConv
open Cert.ReferenceIdeal Cert.ReferenceIdeal.Gen Cert.ReferenceIdeal.Read

/-- A convolution of 64 features. -/
abbrev feat64 (rows cols : IVec S4000 32) (ws : FVec Ideal S4000 .f32) (z : FVec Ideal S100x64 .f32) (b : FVec Ideal S64 .f32) :
    FVec Ideal S100x64 .f32 :=
  featHost (E := 4000) concatenates_S4000_S100_S4100_d0 bcast_S_S4100 bcast_S4100_S4100x1_0 bcast_S_S100
    gather_S100_S4100x1_S4100_n_0_n_n_0_1_1 scatter_S100_S4100x1_S4100_n_0_0_1 gather_S100x64_S4100x1_S4100x64_1_0_n_n_0_1_164
    scatter_S100x64_S4100x1_S4100x64_1_0_0_1 bcast_S_S100x64 bcast_S4100x1_S4100x64_0_1 bcast_S64_S1x64_1 bcast_S1x64_S100x64_0_1
    rows cols ws z b

/-- A convolution of 20 features. -/
abbrev feat20 (rows cols : IVec S4000 32) (ws : FVec Ideal S4000 .f32) (z : FVec Ideal S100x20 .f32) (b : FVec Ideal S20 .f32) :
    FVec Ideal S100x20 .f32 :=
  featHost (E := 4000) concatenates_S4000_S100_S4100_d0 bcast_S_S4100 bcast_S4100_S4100x1_0 bcast_S_S100
    gather_S100_S4100x1_S4100_n_0_n_n_0_1_1 scatter_S100_S4100x1_S4100_n_0_0_1 gather_S100x20_S4100x1_S4100x20_1_0_n_n_0_1_120
    scatter_S100x20_S4100x1_S4100x20_1_0_0_1 bcast_S_S100x20 bcast_S4100x1_S4100x20_0_1 bcast_S20_S1x20_1 bcast_S1x20_S100x20_0_1
    rows cols ws z b

/-- The host's sum of the arriving features. -/
abbrev arrive20 (rows cols : IVec S4000 32) (z : FVec Ideal S100x20 .f32) : FVec Ideal S100x20 .f32 :=
  arriveHost (T := 4000) bcast_S_S4000 bcast_S4000_S4000x1_0 gather_S100x20_S4000x1_S4000x20_1_0_n_n_0_1_120
    scatter_S100x20_S4000x1_S4000x20_1_0_0_1 bcast_S_S100x20 rows cols z

section Blocks

variable {rows cols : IVec S4000 32} {ws : FVec Ideal S4000 .f32} (row col : Fin 4000 → Fin 100) (w : Fin 4000 → EReal)
  (hR : ∀ e, rows (ix1 e) = BitVec.ofNat 32 (row e).val) (hC : ∀ e, cols (ix1 e) = BitVec.ofNat 32 (col e).val)
  (hW : ∀ e, ws (ix1 e) = w e) (hw : ∀ e, Fine (w e))

include hR hC hW hw in
/-- A convolution to 64 features with its activation. -/
theorem feat64_read (z : FVec Ideal S100x64 .f32) (b : FVec Ideal S64 .f32) (i : Fin 100) (f : Fin 64) :
    feat64 rows cols ws z b (ix2 i f) = leaky slope (gcn row col w (fun i f => z (ix2 i f)) i f + b (ix1 f)) :=
  featHost_read (E := 4000) _ _ _ _ _ _ _ _ _ _ _ _ rows cols ws z b row col w hR hC hW hw rfl rfl rfl rfl rfl rfl rfl rfl rfl rfl rfl
    rfl rfl rfl rfl rfl rfl i f

include hR hC hW hw in
/-- A convolution to 20 features with its activation. -/
theorem feat20_read (z : FVec Ideal S100x20 .f32) (b : FVec Ideal S20 .f32) (i : Fin 100) (f : Fin 20) :
    feat20 rows cols ws z b (ix2 i f) = leaky slope (gcn row col w (fun i f => z (ix2 i f)) i f + b (ix1 f)) :=
  featHost_read (E := 4000) _ _ _ _ _ _ _ _ _ _ _ _ rows cols ws z b row col w hR hC hW hw rfl rfl rfl rfl rfl rfl rfl rfl rfl rfl rfl
    rfl rfl rfl rfl rfl rfl i f

include hR hC in
/-- The features arriving at a node, added up. -/
theorem arrive20_read (z : FVec Ideal S100x20 .f32) (i : Fin 100) (f : Fin 20) :
    arrive20 rows cols z (ix2 i f) = arrive row col (fun i f => z (ix2 i f)) i f :=
  arriveHost_read _ _ _ _ _ rows cols z row col hR hC rfl rfl rfl rfl rfl rfl rfl rfl rfl i f

end Blocks

/-- The product of the inputs with a first weight matrix. -/
theorem dot64 (x : FVec Ideal S100x100 .f32) (y : FVec Ideal S100x64 .f32) : (fun i j => Host.dotGeneral dot_S100x100_S100x64_S100x64_1_0_0_1_n_n none x y (ix2 i j))
    = mul (fun i j => x (ix2 i j)) (fun i j => y (ix2 i j)) :=
  funext fun i => funext fun j => dot_plain _ rfl rfl rfl rfl rfl rfl none x y i j

/-- The product of the first features with a second weight matrix. -/
theorem dot64_20 (x : FVec Ideal S100x64 .f32) (y : FVec Ideal S64x20 .f32) : (fun i j => Host.dotGeneral dot_S100x64_S64x20_S100x20_1_0_0_1_n_n none x y (ix2 i j))
    = mul (fun i j => x (ix2 i j)) (fun i j => y (ix2 i j)) :=
  funext fun i => funext fun j => dot_plain _ rfl rfl rfl rfl rfl rfl none x y i j

/-- The product of the second features with the last weight matrix. -/
theorem dot20 (x : FVec Ideal S100x20 .f32) (y : FVec Ideal S20x20 .f32) : (fun i j => Host.dotGeneral dot_S100x20_S20x20_S100x20_1_0_0_1_n_n none x y (ix2 i j))
    = mul (fun i j => x (ix2 i j)) (fun i j => y (ix2 i j)) :=
  funext fun i => funext fun j => dot_plain _ rfl rfl rfl rfl rfl rfl none x y i j

variable (x0 : FVec Ideal S100x100 .f32) (x1 : IVec S2x4000 32) (x2 : FVec Ideal S4000 .f32)
  (x4 : FVec Ideal S100x64 .f32) (x5 : FVec Ideal S64 .f32) (x6 : FVec Ideal S100x64 .f32) (x7 : FVec Ideal S64 .f32)
  (x8 : FVec Ideal S64x20 .f32) (x9 : FVec Ideal S20 .f32) (x10 : FVec Ideal S64x20 .f32) (x11 : FVec Ideal S20 .f32)
  (x12 : FVec Ideal S20x20 .f32) (x13 : FVec Ideal S20 .f32) (x14 : FVec Ideal S20x1 .f32) (x15 : FVec Ideal S1 .f32)
  (x16 : FVec Ideal S20x1 .f32)

/-! ## The generated values as the blocks -/

abbrev rowV : IVec S4000 32 := val_main_v1 (F := Ideal) x1
abbrev colV : IVec S4000 32 := val_main_v3 (F := Ideal) x1
abbrev leftV : FVec Ideal S4000 .f32 := val_main_v16 (F := Ideal) x1 x2
abbrev rightV : FVec Ideal S4000 .f32 := val_main_v17 (F := Ideal) x1 x2
abbrev oneV : FVec Ideal S100x64 .f32 := val_main_v138 (F := Ideal) x0 x1 x2 x4 x5 x6 x7
abbrev twoV : FVec Ideal S100x20 .f32 := val_main_v259 (F := Ideal) x0 x1 x2 x4 x5 x6 x7 x8 x9 x10 x11
abbrev featV : FVec Ideal S100x20 .f32 := val_main_v318 (F := Ideal) x0 x1 x2 x4 x5 x6 x7 x8 x9 x10 x11 x12 x13
abbrev scoreV : FVec Ideal S100 .f32 := val_main_v341 (F := Ideal) x0 x1 x2 x4 x5 x6 x7 x8 x9 x10 x11 x12 x13 x14 x15 x16

/-- The first layer of the left half is a convolution. -/
theorem left64 : val_main_v76 (F := Ideal) x0 x1 x2 x4 x5
    = feat64 (rowV x1) (colV x1) (leftV x1 x2) (Host.dotGeneral dot_S100x100_S100x64_S100x64_1_0_0_1_n_n none x0 x4) x5 := rfl

/-- The first layer of the right half is a convolution. -/
theorem right64 : val_main_v135 (F := Ideal) x0 x1 x2 x6 x7
    = feat64 (rowV x1) (colV x1) (rightV x1 x2) (Host.dotGeneral dot_S100x100_S100x64_S100x64_1_0_0_1_n_n none x0 x6) x7 := rfl

/-- The first features are joined from the two halves. -/
theorem one_halves : oneV x0 x1 x2 x4 x5 x6 x7
    = halves slices_S100x64_S50x64_0_0 slices_S100x64_S50x64_50_0 concatenates_S50x64_S50x64_S100x64_d0
      (val_main_v76 (F := Ideal) x0 x1 x2 x4 x5) (val_main_v135 (F := Ideal) x0 x1 x2 x6 x7) := rfl

/-- The second layer of the left half is a convolution. -/
theorem left20 : val_main_v197 (F := Ideal) x0 x1 x2 x4 x5 x6 x7 x8 x9
    = feat20 (rowV x1) (colV x1) (leftV x1 x2)
      (Host.dotGeneral dot_S100x64_S64x20_S100x20_1_0_0_1_n_n none (oneV x0 x1 x2 x4 x5 x6 x7) x8) x9 := rfl

/-- The second layer of the right half is a convolution. -/
theorem right20 : val_main_v256 (F := Ideal) x0 x1 x2 x4 x5 x6 x7 x10 x11
    = feat20 (rowV x1) (colV x1) (rightV x1 x2)
      (Host.dotGeneral dot_S100x64_S64x20_S100x20_1_0_0_1_n_n none (oneV x0 x1 x2 x4 x5 x6 x7) x10) x11 := rfl

/-- The second features are joined from the two halves. -/
theorem two_halves : twoV x0 x1 x2 x4 x5 x6 x7 x8 x9 x10 x11
    = halves slices_S100x20_S50x20_0_0 slices_S100x20_S50x20_50_0 concatenates_S50x20_S50x20_S100x20_d0
      (val_main_v197 (F := Ideal) x0 x1 x2 x4 x5 x6 x7 x8 x9) (val_main_v256 (F := Ideal) x0 x1 x2 x4 x5 x6 x7 x10 x11) := rfl

/-- The last layer is a convolution over all edges. -/
theorem global20 : featV x0 x1 x2 x4 x5 x6 x7 x8 x9 x10 x11 x12 x13
    = feat20 (rowV x1) (colV x1) x2
      (Host.dotGeneral dot_S100x20_S20x20_S100x20_1_0_0_1_n_n none (twoV x0 x1 x2 x4 x5 x6 x7 x8 x9 x10 x11) x12) x13 := rfl

/-- The features arriving at the nodes, which the scores are made of. -/
theorem arrived : val_main_v333 (F := Ideal) x0 x1 x2 x4 x5 x6 x7 x8 x9 x10 x11 x12 x13
    = arrive20 (rowV x1) (colV x1) (featV x0 x1 x2 x4 x5 x6 x7 x8 x9 x10 x11 x12 x13) := rfl

/-! ## The reads -/

variable (row col : Fin 4000 → Fin 100) (w : Fin 4000 → EReal)
  (h5 : ∀ e, x1 (ix2 (0 : Fin 2) e) = BitVec.ofNat 32 (row e).val) (h6 : ∀ e, x1 (ix2 (1 : Fin 2) e) = BitVec.ofNat 32 (col e).val)
  (h7 : ∀ e, x2 (ix1 e) = w e) (hw : ∀ e, Fine (w e))

include h5 in
/-- The starts of the edges. -/
theorem rowV_read (e : Fin 4000) : rowV x1 (ix1 e) = BitVec.ofNat 32 (row e).val := by
  refine (cast_row _ shapeCasts_S1x4000_S4000 e).trans ?_
  refine (extractStridedSlice_apply _ x1 slices_S2x4000_S1x4000_0_0 _ (ix2 (0 : Fin 2) e) fun a => ?_).trans (h5 e)
  match a with
  | ⟨0, _⟩ => rfl
  | ⟨1, _⟩ => show e.val = 0 + e.val; omega

include h6 in
/-- The ends of the edges. -/
theorem colV_read (e : Fin 4000) : colV x1 (ix1 e) = BitVec.ofNat 32 (col e).val := by
  refine (cast_row _ shapeCasts_S1x4000_S4000 e).trans ?_
  refine (extractStridedSlice_apply _ x1 slices_S2x4000_S1x4000_1_0 _ (ix2 (1 : Fin 2) e) fun a => ?_).trans (h6 e)
  match a with
  | ⟨0, _⟩ => rfl
  | ⟨1, _⟩ => show e.val = 0 + e.val; omega

/-- A node is a small natural. -/
theorem word_lt (r : Fin 100) : r.val < 2 ^ 31 := lt_trans r.isLt (by norm_num)

include h5 h6 h7 in
/-- The weights of the edges inside the left half. -/
theorem leftV_read (e : Fin 4000) : leftV x1 x2 (ix1 e) = leftW row col w e := by
  have hl : val_main_v8 (F := Ideal) x1 (ix1 e) = 1#1 ↔ (row e).val < 50 ∧ (col e).val < 50 := by
    refine (andi_one _ _ _).trans (and_congr ?_ ?_)
    · exact lt_word _ _ _ (rowV_read x1 row h5 e) (host_scalar bcast_S_S4000 _ _) (word_lt _) (by norm_num)
    · exact lt_word _ _ _ (colV_read x1 col h6 e) (host_scalar bcast_S_S4000 _ _) (word_lt _) (by norm_num)
  refine (mulf_apply x2 _ (ix1 e)).trans ?_
  rw [leftW, h7]
  refine congrArg (w e * ·) ?_
  refine (test_host _ _).trans ?_
  simp only [hl]

include h5 h6 h7 in
/-- The weights of the edges inside the right half. -/
theorem rightV_read (e : Fin 4000) : rightV x1 x2 (ix1 e) = rightW row col w e := by
  have hl : val_main_v14 (F := Ideal) x1 (ix1 e) = 1#1 ↔ 50 ≤ (row e).val ∧ 50 ≤ (col e).val := by
    refine (andi_one _ _ _).trans (and_congr ?_ ?_)
    · exact ge_word _ _ _ (rowV_read x1 row h5 e) (host_scalar bcast_S_S4000 _ _) (word_lt _) (by norm_num)
    · exact ge_word _ _ _ (colV_read x1 col h6 e) (host_scalar bcast_S_S4000 _ _) (word_lt _) (by norm_num)
  refine (mulf_apply x2 _ (ix1 e)).trans ?_
  rw [rightW, h7]
  refine congrArg (w e * ·) ?_
  refine (test_host _ _).trans ?_
  simp only [hl]

include hw in
/-- The left weights are nonnegative reals. -/
theorem leftW_fine (e : Fin 4000) : Fine (leftW row col w e) := fine_mask (hw e) _

include hw in
/-- The right weights are nonnegative reals. -/
theorem rightW_fine (e : Fin 4000) : Fine (rightW row col w e) := fine_mask (hw e) _

include h5 h6 h7 hw in
/-- The first features are a layer of the inputs. -/
theorem oneV_read : (fun i f => oneV x0 x1 x2 x4 x5 x6 x7 (ix2 i f))
    = layer row col slope w (fun i j => x0 (ix2 i j)) (fun i j => x4 (ix2 i j)) (fun j => x5 (ix1 j)) (fun i j => x6 (ix2 i j)) (fun j => x7 (ix1 j)) := by
  funext i f
  rw [one_halves, halves_read, left64, right64,
    feat64_read row col _ (rowV_read x1 row h5) (colV_read x1 col h6) (leftV_read x1 x2 row col w h5 h6 h7) (leftW_fine row col w hw),
    feat64_read row col _ (rowV_read x1 row h5) (colV_read x1 col h6) (rightV_read x1 x2 row col w h5 h6 h7) (rightW_fine row col w hw),
    dot64, dot64]
  rfl

include h5 h6 h7 hw in
/-- The second features are a layer of the first. -/
theorem twoV_read : (fun i f => twoV x0 x1 x2 x4 x5 x6 x7 x8 x9 x10 x11 (ix2 i f))
    = layer row col slope w (fun i f => oneV x0 x1 x2 x4 x5 x6 x7 (ix2 i f)) (fun i j => x8 (ix2 i j)) (fun j => x9 (ix1 j)) (fun i j => x10 (ix2 i j)) (fun j => x11 (ix1 j)) := by
  funext i f
  rw [two_halves, halves_read, left20, right20,
    feat20_read row col _ (rowV_read x1 row h5) (colV_read x1 col h6) (leftV_read x1 x2 row col w h5 h6 h7) (leftW_fine row col w hw),
    feat20_read row col _ (rowV_read x1 row h5) (colV_read x1 col h6) (rightV_read x1 x2 row col w h5 h6 h7) (rightW_fine row col w hw),
    dot64_20, dot64_20]
  rfl

include h5 h6 h7 hw in
/-- The last features are a convolution of the second. -/
theorem globalV_read : (fun i f => featV x0 x1 x2 x4 x5 x6 x7 x8 x9 x10 x11 x12 x13 (ix2 i f))
    = feat row col slope w (fun i f => twoV x0 x1 x2 x4 x5 x6 x7 x8 x9 x10 x11 (ix2 i f)) (fun i j => x12 (ix2 i j)) (fun j => x13 (ix1 j)) := by
  funext i f
  rw [global20, feat20_read row col _ (rowV_read x1 row h5) (colV_read x1 col h6) h7 hw, dot20]
  rfl

include h5 h6 in
/-- The scores, from the last features. -/
theorem scoreV_read (i : Fin 100) : scoreV x0 x1 x2 x4 x5 x6 x7 x8 x9 x10 x11 x12 x13 x14 x15 x16 (ix1 i)
    = score row col (fun i f => featV x0 x1 x2 x4 x5 x6 x7 x8 x9 x10 x11 x12 x13 (ix2 i f)) (fun i j => x14 (ix2 i j)) (x15 (ix1 0)) (fun i j => x16 (ix2 i j)) i := by
  show Ideal.tanh (val_main_v340 (F := Ideal) x0 x1 x2 x4 x5 x6 x7 x8 x9 x10 x11 x12 x13 x14 x15 x16 (ix1 i)) = _
  rw [score]
  refine congrArg Ideal.tanh ?_
  refine (cast_vector _ shapeCasts_S100x1_S100 i).trans ?_
  refine (addf_apply _ _ _).trans ?_
  refine congrArg₂ (· + ·) ((addf_apply _ _ _).trans (congrArg₂ (· + ·) ?_ ?_)) ?_
  · refine (dot_plain dot_S100x20_S20x1_S100x1_1_0_0_1_n_n rfl rfl rfl rfl rfl rfl none _ x14 i 0).trans ?_
    refine Finset.sum_congr rfl fun q _ => ?_
    rw [arrived, arrive20_read row col (rowV_read x1 row h5) (colV_read x1 col h6)]
  · exact (host_spread_row bcast_S1x1_S100x1_0_1 _ i 0).trans (host_row bcast_S1_S1x1_1 x15 0 0)
  · exact dot_plain dot_S100x20_S20x1_S100x1_1_0_0_1_n_n rfl rfl rfl rfl rfl rfl none _ x16 i 0

end Cert.RefFeatures
-- ==== Proof.HostTail.lean ====
/-
  The reference's pooled part — the kept nodes, the Chebyshev layer, the two softmaxes and the pooled output — as functions
  of the features, the listed nodes and the edge list, and what they read.
-/
module

public import proofs.«01_k».proof.Proof.Gen.ReferenceIdeal.Read
public import proofs.«01_k».proof.Proof.HostOps
public import proofs.«01_k».proof.Proof.Net

@[expose] public section

noncomputable section

namespace Cert.HostTail

open Idealize.ShloMosaic Idealize.ShloMosaic.ValueIdx Cert.Model Cert.Reads Cert.HostOps
open Cert.ReferenceIdeal Cert.ReferenceIdeal.Gen
open scoped BigOperators

/-- The index column of fifty nodes. -/
abbrev col50 (v : IVec S50 32) : IVec S50x1 32 := column bcast_S_S50 bcast_S50_S50x1_0 v

/-- The index column of the edges' ends. -/
abbrev colE (v : IVec S4000 32) : IVec S4000x1 32 := column bcast_S_S4000 bcast_S4000_S4000x1_0 v

/-- The listed nodes marked. -/
def keptHost (idx : IVec S50 32) : IVec S100 1 :=
  Host.scatter scatter_S100_S50x1_S50_n_0_0_1 (fun _ b => b) (broadcastInDim S100 ![] bcast_S_S100 (constantI S_ 1 0#1)) (col50 idx)
    (broadcastInDim S50 ![] bcast_S_S50 (constantI S_ 1 1#1))

/-- The places of the listed nodes. -/
def placeHost (idx : IVec S50 32) : IVec S100 32 :=
  Host.scatter scatter_S100_S50x1_S50_n_0_0_1 (fun _ b => b) (broadcastInDim S100 ![] bcast_S_S100 (constantI S_ 32 0#32)) (col50 idx)
    (iotaInDim S50 32 0)

/-- A node vector taken at the edges' ends. -/
abbrev pick {α : Type} (x : S100.Idx → α) (v : IVec S4000 32) : S4000.Idx → α :=
  Host.gather gather_S100_S4000x1_S4000_n_0_n_n_0_1_1 x (colE v)

/-- One for each kept edge. -/
def emHost (idx : IVec S50 32) (rows cols : IVec S4000 32) : FVec Ideal S4000 .f32 :=
  uitofp .f32 (andi (pick (keptHost idx) rows) (pick (keptHost idx) cols))

/-- The edges' weights from the places of their ends. -/
def wchHost (pr pc : IVec S4000 32) (e : FVec Ideal S4000 .f32) : FVec Ideal S4000 .f32 :=
  mulf (mulf (Host.negf (pick (invHost bcast_S_S100 (degHost bcast_S_S4000 bcast_S4000_S4000x1_0 bcast_S_S100
      scatter_S100_S4000x1_S4000_n_0_0_1 pc e)) pr)) e)
    (pick (invHost bcast_S_S100 (degHost bcast_S_S4000 bcast_S4000_S4000x1_0 bcast_S_S100 scatter_S100_S4000x1_S4000_n_0_0_1 pc e)) pc)

/-- The propagation. -/
def propHost (pr pc : IVec S4000 32) (u : FVec Ideal S4000 .f32) (z : FVec Ideal S100x20 .f32) : FVec Ideal S100x20 .f32 :=
  sendHost (T := 4000) bcast_S_S4000 bcast_S4000_S4000x1_0 gather_S100x20_S4000x1_S4000x20_1_0_n_n_0_1_120
    scatter_S100x20_S4000x1_S4000x20_1_0_0_1 bcast_S_S100x20 bcast_S4000x1_S4000x20_0_1 pr pc u z

/-- The second Chebyshev term. -/
def termHost (pr pc : IVec S4000 32) (u : FVec Ideal S4000 .f32) (z : FVec Ideal S100x20 .f32) : FVec Ideal S100x20 .f32 :=
  subf (mulf (fill bcast_S_S100x20 0x40000000#32) (propHost pr pc u (propHost pr pc u z))) z

/-- The product with a coefficient. -/
abbrev coef (x : FVec Ideal S100x20 .f32) (y : FVec Ideal S20x50 .f32) : FVec Ideal S100x50 .f32 :=
  Host.dotGeneral dot_S100x20_S20x50_S100x50_1_0_0_1_n_n none x y

/-- The Chebyshev layer. -/
def chebHost (pr pc : IVec S4000 32) (u : FVec Ideal S4000 .f32) (z : FVec Ideal S100x20 .f32) (W0 W1 W2 : FVec Ideal S20x50 .f32)
    (b : FVec Ideal S50 .f32) : FVec Ideal S100x50 .f32 :=
  addf (addf (addf (coef z W0) (coef (propHost pr pc u z) W1)) (coef (termHost pr pc u z) W2))
    (broadcastInDim S100x50 ![0, 1] bcast_S1x50_S100x50_0_1 (broadcastInDim S1x50 ![1] bcast_S50_S1x50_1 b))

/-- A row's entry for each of its columns. -/
abbrev spread (x : FVec Ideal S100 .f32) : FVec Ideal S100x50 .f32 :=
  broadcastInDim S100x50 ![0, 1] bcast_S100x1_S100x50_0_1 (broadcastInDim S100x1 ![0] bcast_S100_S100x1_0 x)

/-- The exponentials of a row less its largest entry. -/
def expHost (x : FVec Ideal S100x50 .f32) : FVec Ideal S100x50 .f32 :=
  Host.exp (subf x (spread (maximumf (fill bcast_S_S100 0xFF800000#32)
    (Host.reduce FloatOps.maximumf x (constant S_ .f32 0xFF800000#32) reducesTo_S100x50_S100_d1 h_S_))))

/-- The softmax. -/
def softHost (x : FVec Ideal S100x50 .f32) : FVec Ideal S100x50 .f32 :=
  Host.divf (expHost x) (spread (Host.reduceAdd (expHost x) (constant S_ .f32 0x00000000#32) reducesTo_S100x50_S100_d1 h_S_))

/-- The assignment. -/
def assHost (idx : IVec S50 32) (rows cols : IVec S4000 32) (z : FVec Ideal S100x20 .f32) (W0 W1 W2 : FVec Ideal S20x50 .f32)
    (b : FVec Ideal S50 .f32) : FVec Ideal S100x50 .f32 :=
  softHost (chebHost (pick (placeHost idx) rows) (pick (placeHost idx) cols)
    (wchHost (pick (placeHost idx) rows) (pick (placeHost idx) cols) (emHost idx rows cols)) z W0 W1 W2 b)

/-- The pooled output. -/
def poolHost (idx : IVec S50 32) (vals : FVec Ideal S50 .f32) (sorted : IVec S50 32) (z : FVec Ideal S100x20 .f32)
    (ass : FVec Ideal S100x50 .f32) : FVec Ideal S50x20 .f32 :=
  addf (mulf (Host.gather gather_S100x20_S50x1_S50x20_1_0_n_n_0_1_120 z (col50 idx))
      (broadcastInDim S50x20 ![0, 1] bcast_S50x1_S50x20_0_1 (broadcastInDim S50x1 ![0] bcast_S50_S50x1_0 vals)))
    (Host.dotGeneral (φ₁ := .f32) (φ₂ := .f32) dot_S50x50_S50x20_S50x20_1_0_0_1_n_n none
      (Host.gather gather_S100x50_S50x1_S50x50_1_0_n_n_0_1_150 ass (col50 sorted) : FVec Ideal S50x50 .f32)
      (Host.dotGeneral (φ₁ := .f32) (φ₂ := .f32) dot_S50x100_S100x20_S50x20_1_0_0_1_n_n none
        (transpose S50x100 [1, 0] (softHost ass) transposes_S100x50_S50x100_1_0 : FVec Ideal S50x100 .f32) z : FVec Ideal S50x20 .f32))

/-! ## The reads -/

section Kept

variable (idx : IVec S50 32) (σ : Fin 50 → Fin 100) (hx : ∀ a, idx (ix1 a) = BitVec.ofNat 32 (σ a).val) (hσ : Function.Injective σ)

include hx hσ in
/-- The mark of a node is set exactly when the node is selected. -/
theorem keptHost_read (i : Fin 100) : keptHost idx (ix1 i) = 1#1 ↔ Kept σ i := by
  have hc := fun a => column_read bcast_S_S50 bcast_S50_S50x1_0 idx a (σ a) (hx a)
  by_cases h : Kept σ i
  · obtain ⟨k, rfl⟩ := h
    rw [keptHost, Take.scatter_set_vec_hit _ rfl rfl rfl rfl _ _ _ σ hc hσ k]
    exact ⟨fun _ => ⟨k, rfl⟩, fun _ => host_scalar bcast_S_S50 _ _⟩
  · rw [keptHost, Take.scatter_set_vec_miss _ rfl rfl rfl rfl _ _ _ σ hc i fun e he => h ⟨e, he⟩, host_scalar]
    exact ⟨fun h1 => absurd h1 (by decide), fun h1 => absurd h1 h⟩

include hx hσ in
/-- The relabelled node is its place. -/
theorem placeHost_read (i : Fin 100) : placeHost idx (ix1 i) = BitVec.ofNat 32 (place σ i).val := by
  have hc := fun a => column_read bcast_S_S50 bcast_S50_S50x1_0 idx a (σ a) (hx a)
  by_cases h : Kept σ i
  · obtain ⟨k, rfl⟩ := h
    rw [placeHost, Take.scatter_set_vec_hit _ rfl rfl rfl rfl _ _ _ σ hc hσ k, place_of hσ]
    rfl
  · rw [placeHost, Take.scatter_set_vec_miss _ rfl rfl rfl rfl _ _ _ σ hc i fun e he => h ⟨e, he⟩, host_scalar, place, dif_neg h]
    rfl

end Kept

/-- A vector over the nodes picked at the ends of the edges. -/
theorem pick_read {α : Type} (x : S100.Idx → α) (v : IVec S4000 32) (r : Fin 4000 → Fin 100)
    (hv : ∀ e, v (ix1 e) = BitVec.ofNat 32 (r e).val) (e : Fin 4000) : pick x v (ix1 e) = x (ix1 (r e)) :=
  Take.gather_vec _ rfl rfl rfl rfl x _ e (r e) (column_read _ _ v e (r e) (hv e))

section Cheb

variable (idx : IVec S50 32) (σ : Fin 50 → Fin 100) (hx : ∀ a, idx (ix1 a) = BitVec.ofNat 32 (σ a).val) (hσ : Function.Injective σ)
  (rows cols : IVec S4000 32) (row col : Fin 4000 → Fin 100)
  (hR : ∀ e, rows (ix1 e) = BitVec.ofNat 32 (row e).val) (hC : ∀ e, cols (ix1 e) = BitVec.ofNat 32 (col e).val)

include hx hσ hR hC in
/-- The mask of an edge is one when both its ends are selected. -/
theorem emHost_read (e : Fin 4000) : emHost idx rows cols (ix1 e) = em row col σ e := by
  have h : andi (pick (keptHost idx) rows) (pick (keptHost idx) cols) (ix1 e) = 1#1 ↔ Kept σ (row e) ∧ Kept σ (col e) := by
    rw [andi_one, pick_read _ rows row hR, pick_read _ cols col hC, keptHost_read idx σ hx hσ, keptHost_read idx σ hx hσ]
  rw [emHost, test_host, Model.em]
  exact if_congr h rfl rfl

variable (pr pc : IVec S4000 32) (u : FVec Ideal S4000 .f32)
  (hp : ∀ e, pr (ix1 e) = BitVec.ofNat 32 (place σ (row e)).val) (hq : ∀ e, pc (ix1 e) = BitVec.ofNat 32 (place σ (col e)).val)

include hp hq in
/-- The edge weights of the pooled graph. -/
theorem wchHost_read (e1 : FVec Ideal S4000 .f32) (he : ∀ e, e1 (ix1 e) = em row col σ e) (e : Fin 4000) :
    wchHost pr pc e1 (ix1 e) = wch row col σ e := by
  have hd : ∀ i, degHost bcast_S_S4000 bcast_S4000_S4000x1_0 bcast_S_S100 scatter_S100_S4000x1_S4000_n_0_0_1 pc e1 (ix1 i)
      = degc row col σ i := fun i => by
    rw [degHost_read _ _ _ _ pc e1 (fun e => place σ (col e)) hq rfl rfl rfl rfl, degc]
    simp only [he]
  rw [wchHost, mulf_apply, mulf_apply, pick_read _ pc (fun e => place σ (col e)) hq, invHost_read, hd, he, wch]
  refine congrArg (fun t => t * em row col σ e * invSqrt (degc row col σ (place σ (col e)))) ?_
  show -(pick _ pr (ix1 e)) = _
  rw [pick_read _ pr (fun e => place σ (row e)) hp, invHost_read, hd]

variable (hu : ∀ e, u (ix1 e) = wch row col σ e)

include hp hq hu in
/-- One propagation step over the pooled graph. -/
theorem propHost_read (z : FVec Ideal S100x20 .f32) (i : Fin 100) (f : Fin 20) :
    propHost pr pc u z (ix2 i f) = prop row col σ (fun i f => z (ix2 i f)) i f := by
  rw [propHost, sendHost_read _ _ _ _ _ _ pr pc u z (fun e => place σ (row e)) (fun e => place σ (col e)) hp hq rfl rfl rfl rfl rfl rfl
    rfl rfl rfl, prop]
  simp only [hu]

/-- A product with a coefficient matrix. -/
theorem coef_read (x : FVec Ideal S100x20 .f32) (y : FVec Ideal S20x50 .f32) (i : Fin 100) (f : Fin 50) :
    coef x y (ix2 i f) = mul (fun i j => x (ix2 i j)) (fun i j => y (ix2 i j)) i f :=
  dot_plain _ rfl rfl rfl rfl rfl rfl none x y i f

include hp hq hu in
/-- The third Chebyshev term. -/
theorem termHost_read (z : FVec Ideal S100x20 .f32) (i : Fin 100) (f : Fin 20) :
    termHost pr pc u z (ix2 i f) = tx2 row col σ two (fun i f => z (ix2 i f)) i f := by
  have h1 : (fun i f => propHost pr pc u z (ix2 i f)) = prop row col σ (fun i f => z (ix2 i f)) :=
    funext fun i => funext fun f => propHost_read σ row col pr pc u hp hq hu z i f
  rw [termHost, tx2]
  refine (subf_apply _ _ _).trans (congrArg (· - z (ix2 i f)) ((mulf_apply _ _ _).trans (congrArg₂ (· * ·) ?_ ?_)))
  · exact host_scalar bcast_S_S100x20 _ _
  · rw [propHost_read σ row col pr pc u hp hq hu, h1]

include hp hq hu in
/-- The Chebyshev convolution. -/
theorem chebHost_read (z : FVec Ideal S100x20 .f32) (W0 W1 W2 : FVec Ideal S20x50 .f32) (b : FVec Ideal S50 .f32) (i : Fin 100) (f : Fin 50) :
    chebHost pr pc u z W0 W1 W2 b (ix2 i f)
      = cheb row col σ two (fun i f => z (ix2 i f)) (fun i j => W0 (ix2 i j)) (fun i j => W1 (ix2 i j)) (fun i j => W2 (ix2 i j))
        (fun j => b (ix1 j)) i f := by
  have h1 : (fun i f => propHost pr pc u z (ix2 i f)) = prop row col σ (fun i f => z (ix2 i f)) :=
    funext fun i => funext fun f => propHost_read σ row col pr pc u hp hq hu z i f
  have h2 : (fun i f => termHost pr pc u z (ix2 i f)) = tx2 row col σ two (fun i f => z (ix2 i f)) :=
    funext fun i => funext fun f => termHost_read σ row col pr pc u hp hq hu z i f
  rw [chebHost, addf_apply, addf_apply, addf_apply, coef_read, coef_read, coef_read, h1, h2, host_spread_row, host_row, cheb]

end Cheb

/-- The largest entry is not below the fold's start. -/
theorem max_start {n m : Nat} (x : Mat n m) (i : Fin n) : max (Ideal.ofBits .f32 0xFF800000#32) (rowMax x i) = rowMax x i :=
  max_eq_right (Finset.le_fold_max _ |>.2 (Or.inl le_rfl))

/-- The exponentials under a softmax, shifted by the largest entry of the row. -/
theorem expHost_read (x : FVec Ideal S100x50 .f32) (i : Fin 100) (k : Fin 50) :
    expHost x (ix2 i k) = Ideal.exp (x (ix2 i k) - rowMax (fun i k => x (ix2 i k)) i) := by
  show Ideal.exp (subf x _ (ix2 i k)) = _
  rw [subf_apply, spread, host_spread_column, host_column]
  refine congrArg (fun t => Ideal.exp (x (ix2 i k) - t)) ?_
  refine Eq.trans ?_ (max_start (fun i k => x (ix2 i k)) i)
  refine congrArg₂ max (host_scalar bcast_S_S100 _ _) ?_
  exact host_row_max x _ reducesTo_S100x50_S100_d1 (by decide) h_S_ i

/-- The softmax of a row. -/
theorem softHost_read (x : FVec Ideal S100x50 .f32) (i : Fin 100) (k : Fin 50) :
    softHost x (ix2 i k) = softmax (fun i k => x (ix2 i k)) i k := by
  rw [softHost, softmax]
  refine (hostDivf_apply _ _ _).trans (congrArg₂ Ideal.div (expHost_read x i k) ?_)
  rw [spread, host_spread_column, host_column]
  refine (host_row_sum (expHost x) _ reducesTo_S100x50_S100_d1 (by decide) h_S_ i).trans ?_
  rw [show (constant S_ .f32 0x00000000#32 : FVec Ideal S_ .f32) (Shape.Idx.first h_S_) = 0 from zero_word, zero_add]
  exact Finset.sum_congr rfl fun l _ => expHost_read x i l

section Pool

variable (idx sorted : IVec S50 32) (vals : FVec Ideal S50 .f32) (σ srt : Fin 50 → Fin 100) (sc : Fin 100 → EReal)
  (hx : ∀ a, idx (ix1 a) = BitVec.ofNat 32 (σ a).val) (hs : ∀ a, sorted (ix1 a) = BitVec.ofNat 32 (srt a).val)
  (hv : ∀ a, vals (ix1 a) = sc (σ a))

include hx hs hv in
/-- The pooled rows scaled by their scores, plus the assigned rows times the coarse features. -/
theorem poolHost_read (z : FVec Ideal S100x20 .f32) (ass : FVec Ideal S100x50 .f32) (k : Fin 50) (f : Fin 20) :
    poolHost idx vals sorted z ass (ix2 k f)
      = Model.pool σ srt (fun i f => z (ix2 i f)) sc (fun i k => ass (ix2 i k)) k f := by
  rw [poolHost]; unfold Model.pool
  refine (addf_apply _ _ _).trans (congrArg₂ (· + ·) ((mulf_apply _ _ _).trans (congrArg₂ (· * ·) ?_ ?_)) ?_)
  · exact Take.gather_rows _ rfl rfl rfl rfl rfl z _ k f (σ k) (column_read _ _ idx k (σ k) (hx k))
  · exact (host_spread_column bcast_S50x1_S50x20_0_1 _ k f).trans ((host_column bcast_S50_S50x1_0 vals k 0).trans (hv k))
  · refine (dot_plain dot_S50x50_S50x20_S50x20_1_0_0_1_n_n rfl rfl rfl rfl rfl rfl none _ _ k f).trans ?_
    refine Finset.sum_congr rfl fun q _ => congrArg₂ (· * ·) ?_ ?_
    · exact Take.gather_rows _ rfl rfl rfl rfl rfl ass _ k q (srt k) (column_read _ _ sorted k (srt k) (hs k))
    · refine (dot_plain dot_S50x100_S100x20_S50x20_1_0_0_1_n_n rfl rfl rfl rfl rfl rfl none _ _ q f).trans ?_
      refine Finset.sum_congr rfl fun i _ => congrArg (· * z (ix2 i f)) ?_
      rw [transpose_apply [1, 0] (softHost ass) transposes_S100x50_S50x100_1_0 (ix2 q i) (ix2 i q)
        (fun a => by match a with | ⟨0, _⟩ => rfl | ⟨1, _⟩ => rfl), softHost_read]

end Pool

end Cert.HostTail
-- ==== Proof.Select.lean ====
/-
  The two sorts of the reference, in words of node numbers: the top-k selection lists the nodes of rank 0, 1, 2, …, and
  the ascending sort of the selected node numbers lists the selected nodes in increasing order.
-/
module

public import Idealize.ShloMosaic.Lib.ValueIdx
public import Idealize.ShloMosaic.Lib.IdealHost
public import Idealize.ShloMosaic.Lib.StableHlo.Predicate
public import Idealize.ShloMosaic.PureOps.Ideal
public import Idealize.ShloMosaic.PureOps.Ideal.Laws
public import proofs.«01_k».proof.Proof.Rank

@[expose] public section

noncomputable section

namespace Cert.Select

open Idealize.ShloMosaic Idealize.ShloMosaic.ValueIdx Cert.Rank

variable {N m : Nat}

/-- The index made from a number is the one-axis index. -/
theorem ofFin_eq (k : Fin N) : (Shape.Idx.ofFin k : (⟨1, ![N]⟩ : Shape).Idx) = ix1 k := eq_ix1 _

/-- A sort of two vectors by one comparison: both are read through the one sorted list of positions. -/
theorem sort2_vec {α β : Type} (cmp : α × β → α × β → BitVec 1) (x : (⟨1, ![N]⟩ : Shape).Idx → α)
    (y : (⟨1, ![N]⟩ : Shape).Idx → β) (k : Fin N) :
    let σ := sortedFrom (fun a b => cmp (x (ix1 a), y (ix1 a)) (x (ix1 b), y (ix1 b)) == 1#1)
    (Host.sort2 ⟨1, ![N]⟩ 0 cmp x y).1 (ix1 k) = x (ix1 (σ k))
      ∧ (Host.sort2 ⟨1, ![N]⟩ 0 cmp x y).2 (ix1 k) = y (ix1 (σ k)) := by
  intro σ
  have hd : 0 < (⟨1, ![N]⟩ : Shape).rank := Nat.one_pos
  have hal : ∀ (j : (⟨1, ![N]⟩ : Shape).Idx) (q : Fin ((⟨1, ![N]⟩ : Shape).size ⟨0, hd⟩)),
      j.along (⟨0, hd⟩ : Fin (⟨1, ![N]⟩ : Shape).rank) q = ix1 (n := N) q := fun j q =>
    (Shape.Idx.along_rank1 j q).trans (ofFin_eq _)
  constructor
  · unfold Host.sort2
    rw [dif_pos hd]
    simp only [hal]
    rfl
  · unfold Host.sort2
    rw [dif_pos hd]
    simp only [hal]
    rfl

/-- The top-k selection of a vector: values and indices of the entries of rank `0, …, m-1`. -/
theorem topK_spec (x : FVec Ideal ⟨1, ![N]⟩ .f32) (hm : m ≤ N)
    (h : (⟨1, ![N]⟩ : Shape).Slices (fun _ => 0) ⟨1, ![m]⟩) :
    ∃ σ : Fin m → Fin N,
      (∀ a, (Host.topK ⟨1, ![m]⟩ 0 (FloatOps.cmpfTotal (F := Ideal) (φ := .f32) .gt) x h).1 (ix1 a) = x (ix1 (σ a)))
      ∧ (∀ a, (Host.topK ⟨1, ![m]⟩ 0 (FloatOps.cmpfTotal (F := Ideal) (φ := .f32) .gt) x h).2 (ix1 a) = BitVec.ofNat 32 (σ a).val)
      ∧ ∀ a, rank (fun i => x (ix1 i)) (σ a) = a.val := by
  let bf : Fin N → Fin N → Bool := fun k k' =>
    FloatOps.cmpfTotal (F := Ideal) (φ := .f32) .gt (x (ix1 k)) (x (ix1 k')) == 1#1
  have hbf : ∀ a b, bf a b = true ↔ x (ix1 b) < x (ix1 a) := fun a b => by
    simp only [bf, Ideal.cmpfTotal_def, CmpDirection.ordered, Ideal.cmp, beq_iff_eq, StableHlo.Predicate.ofBool_eq_one_iff,
      decide_eq_true_eq]
  have hix : ∀ a : Fin m, (fun b => ⟨0 + (ix1 a (b.cast h.1.symm)).val, Nat.lt_of_lt_of_le (Nat.add_lt_add_left
      (ix1 a (b.cast h.1.symm)).isLt _) (h.2 b)⟩ : (⟨1, ![N]⟩ : Shape).Idx) = ix1 (a.castLE hm) := fun a => by
    funext b
    match b with
    | ⟨0, _⟩ => exact Fin.ext (Nat.zero_add _)
  refine ⟨fun a => sortedFrom bf (a.castLE hm), fun a => ?_, fun a => ?_, fun a => rank_sortedFrom _ bf hbf _⟩
  · unfold Host.topK extractStridedSlice
    dsimp only
    rw [hix]
    exact (sort2_vec _ x _ _).1
  · unfold Host.topK extractStridedSlice
    dsimp only
    rw [hix]
    exact (sort2_vec _ x _ _).2.trans rfl

/-- The ascending sort of distinct node numbers: the same nodes, in increasing order. -/
theorem sort_spec (cmp : BitVec 32 → BitVec 32 → BitVec 1) (hcmp : ∀ l r, cmp l r = IntOp.cmpi .slt l r) (hN : N ≤ 2 ^ 31)
    (y : IVec ⟨1, ![m]⟩ 32) (σ : Fin m → Fin N) (hσ : Function.Injective σ) (hy : ∀ a, y (ix1 a) = BitVec.ofNat 32 (σ a).val) :
    ∃ srt : Fin m → Fin N, StrictMono srt ∧ (∀ i, (∃ q, srt q = i) ↔ ∃ q, σ q = i)
      ∧ ∀ a, Host.sort ⟨1, ![m]⟩ 0 cmp y (ix1 a) = BitVec.ofNat 32 (srt a).val := by
  let bf : Fin m → Fin m → Bool := fun k k' => cmp (y (ix1 k)) (y (ix1 k')) == 1#1
  have hbf : ∀ a b, bf a b = true ↔ σ a < σ b := fun a b => by
    have ha := (σ a).isLt
    have hb := (σ b).isLt
    simp only [bf, hcmp, hy, beq_iff_eq, IntOp.cmpi]
    rw [StableHlo.Predicate.slt_ofNat_iff _ _ (by omega) (by omega)]
    exact Iff.rfl
  refine ⟨fun a => σ (sortedFrom bf a), fun a b hab => ?_, fun i => ⟨?_, ?_⟩, fun a => ?_⟩
  · refine sortedFrom_lt bf (fun p q => σ p < σ q) (fun p q => (hbf p q).1) (fun p q hpq h => ?_)
      (fun p q r => lt_trans) hab
    have hn : ¬ σ q < σ p := fun h' => by rw [(hbf q p).2 h'] at h; exact Bool.noConfusion h
    exact lt_of_le_of_ne (not_lt.1 hn) fun e => hpq.ne (hσ e)
  · rintro ⟨q, rfl⟩; exact ⟨_, rfl⟩
  · rintro ⟨q, rfl⟩
    obtain ⟨p, hp⟩ := sortedFrom_surjective bf q
    exact ⟨p, congrArg σ hp⟩
  · rw [Host.sort_rank1, ofFin_eq, ← hy]
    simp only [ofFin_eq]
    rfl

end Cert.Select
-- ==== Proof.RefOut.lean ====
/-
  The reference's result read as the network's output.
-/
module

public import proofs.«01_k».proof.Proof.RefFeatures
public import proofs.«01_k».proof.Proof.HostTail
public import proofs.«01_k».proof.Proof.Select

@[expose] public section

noncomputable section

namespace Cert.RefOut

open Idealize.ShloMosaic Idealize.ShloMosaic.ValueIdx Cert.Model Cert.Reads Cert.RefFeatures Cert.HostTail Cert.Par Cert.Rank
open Cert.ReferenceIdeal Cert.ReferenceIdeal.Gen Cert.ReferenceIdeal.Read

variable (x0 : FVec Ideal S100x100 .f32) (x1 : IVec S2x4000 32) (x2 : FVec Ideal S4000 .f32)
  (x4 : FVec Ideal S100x64 .f32) (x5 : FVec Ideal S64 .f32) (x6 : FVec Ideal S100x64 .f32) (x7 : FVec Ideal S64 .f32)
  (x8 : FVec Ideal S64x20 .f32) (x9 : FVec Ideal S20 .f32) (x10 : FVec Ideal S64x20 .f32) (x11 : FVec Ideal S20 .f32)
  (x12 : FVec Ideal S20x20 .f32) (x13 : FVec Ideal S20 .f32) (x14 : FVec Ideal S20x1 .f32) (x15 : FVec Ideal S1 .f32)
  (x16 : FVec Ideal S20x1 .f32) (x17 x18 x19 : FVec Ideal S20x50 .f32) (x20 : FVec Ideal S50 .f32)

abbrev valV : FVec Ideal S50 .f32 := val_main_values (F := Ideal) x0 x1 x2 x4 x5 x6 x7 x8 x9 x10 x11 x12 x13 x14 x15 x16
abbrev idxV : IVec S50 32 := val_main_indices (F := Ideal) x0 x1 x2 x4 x5 x6 x7 x8 x9 x10 x11 x12 x13 x14 x15 x16
abbrev sortedV : IVec S50 32 := val_main_v503 (F := Ideal) x0 x1 x2 x4 x5 x6 x7 x8 x9 x10 x11 x12 x13 x14 x15 x16
abbrev assV : FVec Ideal S100x50 .f32 := val_main_v489 (F := Ideal) x0 x1 x2 x4 x5 x6 x7 x8 x9 x10 x11 x12 x13 x14 x15 x16 x17 x18 x19 x20
abbrev outV : FVec Ideal S50x20 .f32 := val_main_v512 (F := Ideal) x0 x1 x2 x4 x5 x6 x7 x8 x9 x10 x11 x12 x13 x14 x15 x16 x17 x18 x19 x20

/-- The assignment is the softmax of the Chebyshev convolution. -/
theorem ass_block : assV x0 x1 x2 x4 x5 x6 x7 x8 x9 x10 x11 x12 x13 x14 x15 x16 x17 x18 x19 x20
    = assHost (idxV x0 x1 x2 x4 x5 x6 x7 x8 x9 x10 x11 x12 x13 x14 x15 x16) (rowV x1) (colV x1) (featV x0 x1 x2 x4 x5 x6 x7 x8 x9 x10 x11 x12 x13) x17 x18 x19 x20 := rfl

/-- The result is the pooling step. -/
theorem out_block : outV x0 x1 x2 x4 x5 x6 x7 x8 x9 x10 x11 x12 x13 x14 x15 x16 x17 x18 x19 x20
    = poolHost (idxV x0 x1 x2 x4 x5 x6 x7 x8 x9 x10 x11 x12 x13 x14 x15 x16) (valV x0 x1 x2 x4 x5 x6 x7 x8 x9 x10 x11 x12 x13 x14 x15 x16) (sortedV x0 x1 x2 x4 x5 x6 x7 x8 x9 x10 x11 x12 x13 x14 x15 x16) (featV x0 x1 x2 x4 x5 x6 x7 x8 x9 x10 x11 x12 x13) (assV x0 x1 x2 x4 x5 x6 x7 x8 x9 x10 x11 x12 x13 x14 x15 x16 x17 x18 x19 x20) := rfl

variable (row col : Fin 4000 → Fin 100) (w : Fin 4000 → EReal)
  (h5 : ∀ e, x1 (ix2 (0 : Fin 2) e) = BitVec.ofNat 32 (row e).val) (h6 : ∀ e, x1 (ix2 (1 : Fin 2) e) = BitVec.ofNat 32 (col e).val)
  (h7 : ∀ e, x2 (ix1 e) = w e) (hw : ∀ e, Fine (w e))

include h5 h6 h7 hw in
/-- The features. -/
theorem feat_read : (fun i f => featV x0 x1 x2 x4 x5 x6 x7 x8 x9 x10 x11 x12 x13 (ix2 i f)) = netFeat row col w (parOf x0 x4 x5 x6 x7 x8 x9 x10 x11 x12 x13 x14 x15 x16 x17 x18 x19 x20) := by
  rw [globalV_read x0 x1 x2 x4 x5 x6 x7 x8 x9 x10 x11 x12 x13 row col w h5 h6 h7 hw, twoV_read x0 x1 x2 x4 x5 x6 x7 x8 x9 x10 x11 row col w h5 h6 h7 hw,
    oneV_read x0 x1 x2 x4 x5 x6 x7 row col w h5 h6 h7 hw]
  rfl

include h5 h6 h7 hw in
/-- The scores. -/
theorem score_read : (fun i => scoreV x0 x1 x2 x4 x5 x6 x7 x8 x9 x10 x11 x12 x13 x14 x15 x16 (ix1 i)) = netScore row col w (parOf x0 x4 x5 x6 x7 x8 x9 x10 x11 x12 x13 x14 x15 x16 x17 x18 x19 x20) := by
  funext i
  rw [scoreV_read x0 x1 x2 x4 x5 x6 x7 x8 x9 x10 x11 x12 x13 x14 x15 x16 row col h5 h6, feat_read x0 x1 x2 x4 x5 x6 x7 x8 x9 x10 x11 x12 x13 x14 x15 x16 x17 x18 x19 x20 row col w h5 h6 h7 hw]
  rfl

include h5 h6 h7 hw in
/-- The result, over the listed nodes in the order of their scores and in their own. -/
theorem out_read : ∃ σ srt : Fin 50 → Fin 100, (∀ k, rank (netScore row col w (parOf x0 x4 x5 x6 x7 x8 x9 x10 x11 x12 x13 x14 x15 x16 x17 x18 x19 x20)) (σ k) = k.val) ∧ StrictMono srt
    ∧ (∀ i, (∃ q, srt q = i) ↔ ∃ q, σ q = i)
    ∧ ∀ k f, outV x0 x1 x2 x4 x5 x6 x7 x8 x9 x10 x11 x12 x13 x14 x15 x16 x17 x18 x19 x20 (ix2 k f) = netOut row col σ srt w (parOf x0 x4 x5 x6 x7 x8 x9 x10 x11 x12 x13 x14 x15 x16 x17 x18 x19 x20) k f := by
  obtain ⟨σ, hval, hidx, hrank⟩ := Select.topK_spec (scoreV x0 x1 x2 x4 x5 x6 x7 x8 x9 x10 x11 x12 x13 x14 x15 x16) (by norm_num) sliceFits_S100_S50
  have hσ : Function.Injective σ := fun a b hab => Fin.ext (by rw [← hrank a, ← hrank b, hab])
  obtain ⟨srt, hmono, hsrt, hsorted⟩ := Select.sort_spec comparator_i32_d0 (fun _ _ => rfl) (by norm_num) (idxV x0 x1 x2 x4 x5 x6 x7 x8 x9 x10 x11 x12 x13 x14 x15 x16) σ hσ hidx
  rw [score_read x0 x1 x2 x4 x5 x6 x7 x8 x9 x10 x11 x12 x13 x14 x15 x16 x17 x18 x19 x20 row col w h5 h6 h7 hw] at hrank
  refine ⟨σ, srt, hrank, hmono, hsrt, fun k f => ?_⟩
  have hfeat := feat_read x0 x1 x2 x4 x5 x6 x7 x8 x9 x10 x11 x12 x13 x14 x15 x16 x17 x18 x19 x20 row col w h5 h6 h7 hw
  have hR := rowV_read x1 row h5
  have hC := colV_read x1 col h6
  have hp : ∀ e, pick (placeHost (idxV x0 x1 x2 x4 x5 x6 x7 x8 x9 x10 x11 x12 x13 x14 x15 x16)) (rowV x1) (ix1 e) = BitVec.ofNat 32 (place σ (row e)).val := fun e =>
    (pick_read _ _ row hR e).trans (placeHost_read _ σ hidx hσ _)
  have hq : ∀ e, pick (placeHost (idxV x0 x1 x2 x4 x5 x6 x7 x8 x9 x10 x11 x12 x13 x14 x15 x16)) (colV x1) (ix1 e) = BitVec.ofNat 32 (place σ (col e)).val := fun e =>
    (pick_read _ _ col hC e).trans (placeHost_read _ σ hidx hσ _)
  have hass : (fun i k => assV x0 x1 x2 x4 x5 x6 x7 x8 x9 x10 x11 x12 x13 x14 x15 x16 x17 x18 x19 x20 (ix2 i k)) = netAss row col σ w (parOf x0 x4 x5 x6 x7 x8 x9 x10 x11 x12 x13 x14 x15 x16 x17 x18 x19 x20) := by
    funext i k
    rw [ass_block, assHost, softHost_read, netAss, ← hfeat]
    refine congrArg (fun M : Mat 100 50 => softmax M i k) (funext fun i => funext fun f => ?_)
    exact chebHost_read σ row col _ _ _ hp hq (wchHost_read σ row col _ _ hp hq _ (emHost_read _ σ hidx hσ _ _ row col hR hC))
      _ x17 x18 x19 x20 i f
  rw [out_block]
  refine (poolHost_read (idxV x0 x1 x2 x4 x5 x6 x7 x8 x9 x10 x11 x12 x13 x14 x15 x16) (sortedV x0 x1 x2 x4 x5 x6 x7 x8 x9 x10 x11 x12 x13 x14 x15 x16) (valV x0 x1 x2 x4 x5 x6 x7 x8 x9 x10 x11 x12 x13 x14 x15 x16) σ srt (netScore row col w (parOf x0 x4 x5 x6 x7 x8 x9 x10 x11 x12 x13 x14 x15 x16 x17 x18 x19 x20)) hidx hsorted
    (fun a => (hval a).trans (congrFun (score_read x0 x1 x2 x4 x5 x6 x7 x8 x9 x10 x11 x12 x13 x14 x15 x16 x17 x18 x19 x20 row col w h5 h6 h7 hw) (σ a))) _ _ k f).trans ?_
  rw [hfeat, hass]
  rfl

end Cert.RefOut
-- ==== Proof.Final.lean ====
/-
  The precondition read off the arrays, and the two results equal.
-/
module

public import proofs.«01_k».proof.Proof.KerRun
public import proofs.«01_k».proof.Proof.RefOut
public import proofs.«01_k».proof.Pre_edges_in_range

@[expose] public section

noncomputable section

namespace Cert.Final

open Idealize.ShloMosaic Idealize.ShloMosaic.ValueIdx Cert.Model Cert.Reads Cert.Par

/-- A word between zero and ninety-nine is a node. -/
theorem edge_word (a : BitVec 32) (h0 : IntOp.cmpi .sge a 0#32 = 1#1) (h1 : IntOp.cmpi .slt a 100#32 = 1#1) :
    ∃ r : Fin 100, a = BitVec.ofNat 32 r.val := by
  simp only [IntOp.cmpi, StableHlo.Predicate.ofBool_eq_one_iff, BitVec.sle, BitVec.slt, decide_eq_true_eq] at h0 h1
  have e0 : (0#32 : BitVec 32).toInt = 0 := by decide
  have e1 : (100#32 : BitVec 32).toInt = 100 := by decide
  rw [e0] at h0
  rw [e1] at h1
  rw [BitVec.toInt_eq_toNat_cond] at h0 h1
  have hlt := a.isLt
  refine ⟨⟨a.toNat, by split at h0 <;> simp_all <;> omega⟩, ?_⟩
  exact (BitVec.ofNat_toNat 32 a ▸ (BitVec.setWidth_eq a).symm)

/-- A weight that is not negative and below the largest value is a nonnegative real. -/
theorem weight_fine (x b : EReal) (h0 : 0 ≤ x) (h1 : x < b) : Fine x := by
  induction x with
  | bot => exact absurd h0 (by simp)
  | coe r => exact ⟨r, EReal.coe_nonneg.1 h0, rfl⟩
  | top => exact absurd h1 not_top_lt

variable [hf : Cert.Pre_edges_in_range.Facts]

/-- What the precondition says of the edge list and the weights. -/
theorem pre_read (x0 x1 x2 x3 x4 x5 x6 x7 x8 x9 x10 x11 x12 x13 x14 x15 x16 x17 x18 x19 x20)
    (h1 : (Cert.Pre_edges_in_range.fn (F := Ideal) x0 x1 x2 x3 x4 x5 x6 x7 x8 x9 x10 x11 x12 x13 x14 x15 x16 x17 x18 x19 x20).1 = fun _ => 1#1)
    (h2 : (Cert.Pre_edges_in_range.fn (F := Ideal) x0 x1 x2 x3 x4 x5 x6 x7 x8 x9 x10 x11 x12 x13 x14 x15 x16 x17 x18 x19 x20).2 = fun _ => 1#1) :
    (∀ i, ∃ r : Fin 100, x1 i = BitVec.ofNat 32 r.val) ∧ ∀ i, Fine (x2 i) := by
  refine ⟨fun i => ?_, fun i => ?_⟩
  · obtain ⟨ha, hb⟩ := (andi_one _ _ i).1 (congrFun h1 i)
    exact edge_word (x1 i) ha hb
  · obtain ⟨ha, hb⟩ := (andi_one _ _ i).1 (congrFun h2 i)
    have hc := (ge_float _ _ i).1 ha
    have h0 : FloatOps.ofBits (F := Ideal) .f32 0x00000000#32 ≤ x2 i := hc
    rw [HostOps.zero_word] at h0
    have hd : x2 i < FloatOps.ofBits (F := Ideal) .f32 0x7F800000#32 := by
      have hb' : Ideal.cmp .olt (x2 i) (FloatOps.ofBits (F := Ideal) .f32 0x7F800000#32) = 1#1 := hb
      simpa [Ideal.cmp, StableHlo.Predicate.ofBool_eq_one_iff] using hb'
    exact weight_fine _ _ h0 hd

open Idealize.ShloMosaic.StableHlo Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From equal arguments that meet the precondition the reference's result is the kernel's. -/
theorem results_equal (c : Dev Cert.KernelIdeal.nD) (a0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (a1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (a2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (a4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (a5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (a6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (a7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (a8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (a9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (a10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (a11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (a12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (a13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13)))
    (a14 : (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14)))
    (a15 : (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15)))
    (a16 : (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16)))
    (a17 : (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17)))
    (a18 : (m' ((c.tc : Thread Cert.ReferenceIdeal.nD Cert.ReferenceIdeal.τ).loc Cert.ReferenceIdeal.main_arg18)) = (m ((c.tc : Thread Cert.KernelIdeal.nD Cert.KernelIdeal.τ).loc Cert.KernelIdeal.main_arg18)))
    (a19 : (m' ((c.tc : Thread Cert.ReferenceIdeal.nD Cert.ReferenceIdeal.τ).loc Cert.ReferenceIdeal.main_arg19)) = (m ((c.tc : Thread Cert.KernelIdeal.nD Cert.KernelIdeal.τ).loc Cert.KernelIdeal.main_arg19)))
    (a20 : (m' ((c.tc : Thread Cert.ReferenceIdeal.nD Cert.ReferenceIdeal.τ).loc Cert.ReferenceIdeal.main_arg20)) = (m ((c.tc : Thread Cert.KernelIdeal.nD Cert.KernelIdeal.τ).loc Cert.KernelIdeal.main_arg20)))
   (he : ∀ i : (⟨2, ![2, 4000]⟩ : Shape).Idx, ∃ r : Fin 100, (m ((c.tc : Thread Cert.KernelIdeal.nD Cert.KernelIdeal.τ).loc Cert.KernelIdeal.main_arg1)) i = BitVec.ofNat 32 r.val)
    (hw : ∀ i : (⟨1, ![4000]⟩ : Shape).Idx, Fine ((m ((c.tc : Thread Cert.KernelIdeal.nD Cert.KernelIdeal.τ).loc Cert.KernelIdeal.main_arg2)) i)) :
    Cert.ReferenceIdeal.Read.val_main_v512 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20))
      = (Cert.KernelIdeal.Gen.dats m 0 c).arrAt 20 Cert.KernelIdeal.cfg0.N := by
  rw [a0, a1, a2, a4, a5, a6, a7, a8, a9, a10, a11, a12, a13, a14, a15, a16, a17, a18, a19, a20]
  choose r hr using he
  obtain ⟨σ, srt, hσ, hmono, hsrt, hout⟩ := RefOut.out_read (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))
    (fun e => r (ix2 0 e)) (fun e => r (ix2 1 e)) (fun e => (m ((c.tc : Thread Cert.KernelIdeal.nD Cert.KernelIdeal.τ).loc Cert.KernelIdeal.main_arg2)) (ix1 e)) (fun e => hr _) (fun e => hr _) (fun _ => rfl) (fun e => hw _)
  funext i
  obtain ⟨k, f, rfl⟩ : ∃ (k : Fin 50) (f : Fin 20), i = ix2 k f := ⟨_, _, eq_ix2 i⟩
  exact (hout k f).trans (KerRun.result_read m (fun e => r (ix2 0 e)) (fun e => r (ix2 1 e)) c (fun e => hr _) (fun e => hr _)
    (fun e => (m ((c.tc : Thread Cert.KernelIdeal.nD Cert.KernelIdeal.τ).loc Cert.KernelIdeal.main_arg2)) (ix1 e)) (fun _ => rfl) (fun e => hw _) _ rfl σ srt hσ hmono hsrt k f).symm

end Cert.Final
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Final
public import Idealize.ShloMosaic.Adequacy
public import Idealize.ShloMosaic.Init

@[expose] public section

noncomputable section

namespace Cert.Proof

open Idealize.ShloMosaic Idealize.SL.Sem Cert.Kernel

/-- The shape facts that the precondition's function states. -/
theorem preFacts : Cert.Pre_edges_in_range.Facts where
  bcast_S_S2x4000 := by decide
  bcast_S_S4000 := by decide

/-- The reference runs, keeps its arguments and leaves every semaphore counter at zero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- With edge ends in range and nonnegative finite weights the kernel's array and the reference's are equal. -/
theorem same_results [Cert.Pre_edges_in_range.Facts] : Cert.algebraic_KernelIdeal_ReferenceIdeal_pre_edges_in_range := by
  intro m ρ m' ρ' hpre hagree
  refine ⟨fun c => (Cert.KernelIdeal.Gen.dats m 0 c).arrAt 20 Cert.KernelIdeal.cfg0.N, Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v512_eq (StableHlo.launchContents m' c)).trans ?_
  obtain ⟨a0, a1, a2, a3, a4, a5, a6, a7, a8, a9, a10, a11, a12, a13, a14, a15, a16, a17, a18, a19, a20⟩ := hagree c
  obtain ⟨h1, h2⟩ := hpre c
  obtain ⟨he, hw⟩ := Final.pre_read _ _ _ _ _ _ _ _ _ _ _ _ _ _ _ _ _ _ _ _ _ h1 h2
  exact Final.results_equal m m' c a0 a1 a2 a4 a5 a6 a7 a8 a9 a10 a11 a12 a13 a14 a15 a16 a17 a18 a19 a20 he hw

/-- The five claims together. -/
theorem claim : Cert.Claim := ⟨Cert.Kernel.Gen.facts, Cert.KernelIdeal.Gen.facts, Cert.ReferenceIdeal.Gen.facts, preFacts,
  fun m g _ => Cert.Kernel.Gen.frame m g,
  fun m g _ => Cert.KernelIdeal.Gen.frame m g,
  fun m g _ => Cert.KernelIdeal.Gen.frame m g,
  reference_frame, fun m g _ => reference_frame m g trivial, trivial, haveI := preFacts; same_results⟩

end Cert.Proof

end
